-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffa (m : (ℓ : Loc Cert.Ffa.nD Cert.Ffa.τ Cert.Ffa.sig) → Buf (Elt Bits) ℓ) : Prop :=
  True

def Pre_FfaIdeal (m : (ℓ : Loc Cert.FfaIdeal.nD Cert.FfaIdeal.τ Cert.FfaIdeal.sig) → Buf (Elt Ideal) ℓ) : Prop :=
  True

def Pre_FfaRefIdeal (m : (ℓ : Loc Cert.FfaRefIdeal.nD Cert.FfaRefIdeal.τ Cert.FfaRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_qk [hPre_finite_qk : Cert.Pre_finite_qk.Facts] (m : (ℓ : Loc Cert.MobaIdeal.nD Cert.MobaIdeal.τ Cert.MobaIdeal.sig) → Buf (Elt Ideal) ℓ) : Prop :=
  ∀ c : Dev Cert.MobaIdeal.nD,
    (Cert.Pre_finite_qk.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_qk [hPre_finite_qk : Cert.Pre_finite_qk.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_qk.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Ffa [hFfa : Cert.Ffa.Facts] : Prop :=
  ∀ (m : (ℓ : Loc Cert.Ffa.nD Cert.Ffa.τ Cert.Ffa.sig) → Buf (Elt Bits) ℓ) (g : Dev Cert.Ffa.nD → PrngReg), Pre_Ffa m →
    θ_run (Cert.Ffa.defs (F := Bits)) (onTc (τ := Cert.Ffa.τ) (Cert.Ffa.main (F := Bits))) ⟨m, fun _ => 0, g⟩ (fun r => (∀ c : Dev Cert.Ffa.nD,
      r.2.mem ((c.tc : Thread Cert.Ffa.nD Cert.Ffa.τ).loc Cert.Ffa.main_arg0) = m ((c.tc : Thread Cert.Ffa.nD Cert.Ffa.τ).loc Cert.Ffa.main_arg0)
      ∧ r.2.mem ((c.tc : Thread Cert.Ffa.nD Cert.Ffa.τ).loc Cert.Ffa.main_arg1) = m ((c.tc : Thread Cert.Ffa.nD Cert.Ffa.τ).loc Cert.Ffa.main_arg1)
      ∧ r.2.mem ((c.tc : Thread Cert.Ffa.nD Cert.Ffa.τ).loc Cert.Ffa.main_arg2) = m ((c.tc : Thread Cert.Ffa.nD Cert.Ffa.τ).loc Cert.Ffa.main_arg2)
      ∧ r.2.mem ((c.tc : Thread Cert.Ffa.nD Cert.Ffa.τ).loc Cert.Ffa.main_arg3) = m ((c.tc : Thread Cert.Ffa.nD Cert.Ffa.τ).loc Cert.Ffa.main_arg3)
      ∧ r.2.mem ((c.tc : Thread Cert.Ffa.nD Cert.Ffa.τ).loc Cert.Ffa.main_arg4) = m ((c.tc : Thread Cert.Ffa.nD Cert.Ffa.τ).loc Cert.Ffa.main_arg4)
      ∧ r.2.mem ((c.tc : Thread Cert.Ffa.nD Cert.Ffa.τ).loc Cert.Ffa.main_arg5) = m ((c.tc : Thread Cert.Ffa.nD Cert.Ffa.τ).loc Cert.Ffa.main_arg5)
      ∧ r.2.mem ((c.tc : Thread Cert.Ffa.nD Cert.Ffa.τ).loc Cert.Ffa.main_arg6) = m ((c.tc : Thread Cert.Ffa.nD Cert.Ffa.τ).loc Cert.Ffa.main_arg6)
      ∧ r.2.mem ((c.tc : Thread Cert.Ffa.nD Cert.Ffa.τ).loc Cert.Ffa.main_arg7) = m ((c.tc : Thread Cert.Ffa.nD Cert.Ffa.τ).loc Cert.Ffa.main_arg7)
      ∧ r.2.mem ((c.tc : Thread Cert.Ffa.nD Cert.Ffa.τ).loc Cert.Ffa.main_arg8) = m ((c.tc : Thread Cert.Ffa.nD Cert.Ffa.τ).loc Cert.Ffa.main_arg8))
      ∧ r.2.sem = fun _ => 0)

def quiescent_FfaIdeal [hFfaIdeal : Cert.FfaIdeal.Facts] : Prop :=
  ∀ (m : (ℓ : Loc Cert.FfaIdeal.nD Cert.FfaIdeal.τ Cert.FfaIdeal.sig) → Buf (Elt Ideal) ℓ) (g : Dev Cert.FfaIdeal.nD → PrngReg), Pre_FfaIdeal m →
    θ_run (Cert.FfaIdeal.defs (F := Ideal)) (onTc (τ := Cert.FfaIdeal.τ) (Cert.FfaIdeal.main (F := Ideal))) ⟨m, fun _ => 0, g⟩ (fun r => (∀ c : Dev Cert.FfaIdeal.nD,
      r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
      ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
      ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
      ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
      ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
      ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
      ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6)
      ∧ r.2.mem ((c.tc : Thread Cert.FfaIdeal.nD Cert.FfaIdeal.τ).loc Cert.FfaIdeal.main_arg7) = m ((c.tc : Thread Cert.FfaIdeal.nD Cert.FfaIdeal.τ).loc Cert.FfaIdeal.main_arg7)
      ∧ r.2.mem ((c.tc : Thread Cert.FfaIdeal.nD Cert.FfaIdeal.τ).loc Cert.FfaIdeal.main_arg8) = m ((c.tc : Thread Cert.FfaIdeal.nD Cert.FfaIdeal.τ).loc Cert.FfaIdeal.main_arg8))
      ∧ r.2.sem = fun _ => 0)

def quiescent_FfaRefIdeal [hFfaRefIdeal : Cert.FfaRefIdeal.Facts] : Prop :=
  ∀ (m : (ℓ : Loc Cert.FfaRefIdeal.nD Cert.FfaRefIdeal.τ Cert.FfaRefIdeal.sig) → Buf (Elt Ideal) ℓ) (g : Dev Cert.FfaRefIdeal.nD → PrngReg), Pre_FfaRefIdeal m →
    θ_run (Cert.FfaRefIdeal.defs (F := Ideal)) (onTc (τ := Cert.FfaRefIdeal.τ) (Cert.FfaRefIdeal.main (F := Ideal))) ⟨m, fun _ => 0, g⟩ (fun r => (∀ c : Dev Cert.FfaRefIdeal.nD,
      r.2.mem ((c.tc : Thread Cert.FfaRefIdeal.nD Cert.FfaRefIdeal.τ).loc Cert.FfaRefIdeal.main_arg0) = m ((c.tc : Thread Cert.FfaRefIdeal.nD Cert.FfaRefIdeal.τ).loc Cert.FfaRefIdeal.main_arg0)
      ∧ r.2.mem ((c.tc : Thread Cert.FfaRefIdeal.nD Cert.FfaRefIdeal.τ).loc Cert.FfaRefIdeal.main_arg1) = m ((c.tc : Thread Cert.FfaRefIdeal.nD Cert.FfaRefIdeal.τ).loc Cert.FfaRefIdeal.main_arg1)
      ∧ r.2.mem ((c.tc : Thread Cert.FfaRefIdeal.nD Cert.FfaRefIdeal.τ).loc Cert.FfaRefIdeal.main_arg2) = m ((c.tc : Thread Cert.FfaRefIdeal.nD Cert.FfaRefIdeal.τ).loc Cert.FfaRefIdeal.main_arg2)
      ∧ r.2.mem ((c.tc : Thread Cert.FfaRefIdeal.nD Cert.FfaRefIdeal.τ).loc Cert.FfaRefIdeal.main_arg3) = m ((c.tc : Thread Cert.FfaRefIdeal.nD Cert.FfaRefIdeal.τ).loc Cert.FfaRefIdeal.main_arg3)
      ∧ r.2.mem ((c.tc : Thread Cert.FfaRefIdeal.nD Cert.FfaRefIdeal.τ).loc Cert.FfaRefIdeal.main_arg4) = m ((c.tc : Thread Cert.FfaRefIdeal.nD Cert.FfaRefIdeal.τ).loc Cert.FfaRefIdeal.main_arg4)
      ∧ r.2.mem ((c.tc : Thread Cert.FfaRefIdeal.nD Cert.FfaRefIdeal.τ).loc Cert.FfaRefIdeal.main_arg5) = m ((c.tc : Thread Cert.FfaRefIdeal.nD Cert.FfaRefIdeal.τ).loc Cert.FfaRefIdeal.main_arg5)
      ∧ r.2.mem ((c.tc : Thread Cert.FfaRefIdeal.nD Cert.FfaRefIdeal.τ).loc Cert.FfaRefIdeal.main_arg6) = m ((c.tc : Thread Cert.FfaRefIdeal.nD Cert.FfaRefIdeal.τ).loc Cert.FfaRefIdeal.main_arg6)
      ∧ r.2.mem ((c.tc : Thread Cert.FfaRefIdeal.nD Cert.FfaRefIdeal.τ).loc Cert.FfaRefIdeal.main_arg7) = m ((c.tc : Thread Cert.FfaRefIdeal.nD Cert.FfaRefIdeal.τ).loc Cert.FfaRefIdeal.main_arg7)
      ∧ r.2.mem ((c.tc : Thread Cert.FfaRefIdeal.nD Cert.FfaRefIdeal.τ).loc Cert.FfaRefIdeal.main_arg8) = m ((c.tc : Thread Cert.FfaRefIdeal.nD Cert.FfaRefIdeal.τ).loc Cert.FfaRefIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaIdeal_pre_finite_qk [hMobaIdeal : Cert.MobaIdeal.Facts] [hPre_finite_qk : Cert.Pre_finite_qk.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_qk m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRefIdeal_pre_finite_qk [hMobaRefIdeal : Cert.MobaRefIdeal.Facts] [hPre_finite_qk : Cert.Pre_finite_qk.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_qk m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Ffa_FfaIdeal : Prop :=
  True

def algebraic_FfaIdeal_FfaRefIdeal [hFfaIdeal : Cert.FfaIdeal.Facts] [hFfaRefIdeal : Cert.FfaRefIdeal.Facts] : Prop :=
  ∀ (m : (ℓ : Loc Cert.FfaIdeal.nD Cert.FfaIdeal.τ Cert.FfaIdeal.sig) → Buf (Elt Ideal) ℓ) (g : Dev Cert.FfaIdeal.nD → PrngReg)
    (m' : (ℓ : Loc Cert.FfaRefIdeal.nD Cert.FfaRefIdeal.τ Cert.FfaRefIdeal.sig) → Buf (Elt Ideal) ℓ) (g' : Dev Cert.FfaRefIdeal.nD → PrngReg), Pre_FfaIdeal m →
    (∀ c : Dev Cert.FfaIdeal.nD,
      m' ((c.tc : Thread Cert.FfaRefIdeal.nD Cert.FfaRefIdeal.τ).loc Cert.FfaRefIdeal.main_arg0) = m ((c.tc : Thread Cert.FfaIdeal.nD Cert.FfaIdeal.τ).loc Cert.FfaIdeal.main_arg0)
      ∧ m' ((c.tc : Thread Cert.FfaRefIdeal.nD Cert.FfaRefIdeal.τ).loc Cert.FfaRefIdeal.main_arg1) = m ((c.tc : Thread Cert.FfaIdeal.nD Cert.FfaIdeal.τ).loc Cert.FfaIdeal.main_arg1)
      ∧ m' ((c.tc : Thread Cert.FfaRefIdeal.nD Cert.FfaRefIdeal.τ).loc Cert.FfaRefIdeal.main_arg2) = m ((c.tc : Thread Cert.FfaIdeal.nD Cert.FfaIdeal.τ).loc Cert.FfaIdeal.main_arg2)
      ∧ m' ((c.tc : Thread Cert.FfaRefIdeal.nD Cert.FfaRefIdeal.τ).loc Cert.FfaRefIdeal.main_arg3) = m ((c.tc : Thread Cert.FfaIdeal.nD Cert.FfaIdeal.τ).loc Cert.FfaIdeal.main_arg3)
      ∧ m' ((c.tc : Thread Cert.FfaRefIdeal.nD Cert.FfaRefIdeal.τ).loc Cert.FfaRefIdeal.main_arg4) = m ((c.tc : Thread Cert.FfaIdeal.nD Cert.FfaIdeal.τ).loc Cert.FfaIdeal.main_arg4)
      ∧ m' ((c.tc : Thread Cert.FfaRefIdeal.nD Cert.FfaRefIdeal.τ).loc Cert.FfaRefIdeal.main_arg5) = m ((c.tc : Thread Cert.FfaIdeal.nD Cert.FfaIdeal.τ).loc Cert.FfaIdeal.main_arg5)
      ∧ m' ((c.tc : Thread Cert.FfaRefIdeal.nD Cert.FfaRefIdeal.τ).loc Cert.FfaRefIdeal.main_arg6) = m ((c.tc : Thread Cert.FfaIdeal.nD Cert.FfaIdeal.τ).loc Cert.FfaIdeal.main_arg6)
      ∧ m' ((c.tc : Thread Cert.FfaRefIdeal.nD Cert.FfaRefIdeal.τ).loc Cert.FfaRefIdeal.main_arg7) = m ((c.tc : Thread Cert.FfaIdeal.nD Cert.FfaIdeal.τ).loc Cert.FfaIdeal.main_arg7)
      ∧ m' ((c.tc : Thread Cert.FfaRefIdeal.nD Cert.FfaRefIdeal.τ).loc Cert.FfaRefIdeal.main_arg8) = m ((c.tc : Thread Cert.FfaIdeal.nD Cert.FfaIdeal.τ).loc Cert.FfaIdeal.main_arg8)) →
    ∃ (v0 : (c : Dev Cert.FfaIdeal.nD) → Buf (Elt Ideal) ((c.tc : Thread Cert.FfaIdeal.nD Cert.FfaIdeal.τ).loc Cert.FfaIdeal.main_v4)),
      θ_run (Cert.FfaIdeal.defs (F := Ideal)) (onTc (τ := Cert.FfaIdeal.τ) (Cert.FfaIdeal.main (F := Ideal))) ⟨m, fun _ => 0, g⟩ (fun r => ∀ c : Dev Cert.FfaIdeal.nD,
          r.2.mem ((c.tc : Thread Cert.FfaIdeal.nD Cert.FfaIdeal.τ).loc Cert.FfaIdeal.main_v4) = v0 c
          ∧ r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
          ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
          ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
          ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
          ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
          ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
          ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6)
          ∧ r.2.mem ((c.tc : Thread Cert.FfaIdeal.nD Cert.FfaIdeal.τ).loc Cert.FfaIdeal.main_arg7) = m ((c.tc : Thread Cert.FfaIdeal.nD Cert.FfaIdeal.τ).loc Cert.FfaIdeal.main_arg7)
          ∧ r.2.mem ((c.tc : Thread Cert.FfaIdeal.nD Cert.FfaIdeal.τ).loc Cert.FfaIdeal.main_arg8) = m ((c.tc : Thread Cert.FfaIdeal.nD Cert.FfaIdeal.τ).loc Cert.FfaIdeal.main_arg8))
      ∧ θ_run (Cert.FfaRefIdeal.defs (F := Ideal)) (onTc (τ := Cert.FfaRefIdeal.τ) (Cert.FfaRefIdeal.main (F := Ideal))) ⟨m', fun _ => 0, g'⟩ (fun r => ∀ c : Dev Cert.FfaRefIdeal.nD,
          r.2.mem ((c.tc : Thread Cert.FfaRefIdeal.nD Cert.FfaRefIdeal.τ).loc Cert.FfaRefIdeal.main_v60) = v0 c
          ∧ r.2.mem ((c.tc : Thread Cert.FfaRefIdeal.nD Cert.FfaRefIdeal.τ).loc Cert.FfaRefIdeal.main_arg0) = m' ((c.tc : Thread Cert.FfaRefIdeal.nD Cert.FfaRefIdeal.τ).loc Cert.FfaRefIdeal.main_arg0)
          ∧ r.2.mem ((c.tc : Thread Cert.FfaRefIdeal.nD Cert.FfaRefIdeal.τ).loc Cert.FfaRefIdeal.main_arg1) = m' ((c.tc : Thread Cert.FfaRefIdeal.nD Cert.FfaRefIdeal.τ).loc Cert.FfaRefIdeal.main_arg1)
          ∧ r.2.mem ((c.tc : Thread Cert.FfaRefIdeal.nD Cert.FfaRefIdeal.τ).loc Cert.FfaRefIdeal.main_arg2) = m' ((c.tc : Thread Cert.FfaRefIdeal.nD Cert.FfaRefIdeal.τ).loc Cert.FfaRefIdeal.main_arg2)
          ∧ r.2.mem ((c.tc : Thread Cert.FfaRefIdeal.nD Cert.FfaRefIdeal.τ).loc Cert.FfaRefIdeal.main_arg3) = m' ((c.tc : Thread Cert.FfaRefIdeal.nD Cert.FfaRefIdeal.τ).loc Cert.FfaRefIdeal.main_arg3)
          ∧ r.2.mem ((c.tc : Thread Cert.FfaRefIdeal.nD Cert.FfaRefIdeal.τ).loc Cert.FfaRefIdeal.main_arg4) = m' ((c.tc : Thread Cert.FfaRefIdeal.nD Cert.FfaRefIdeal.τ).loc Cert.FfaRefIdeal.main_arg4)
          ∧ r.2.mem ((c.tc : Thread Cert.FfaRefIdeal.nD Cert.FfaRefIdeal.τ).loc Cert.FfaRefIdeal.main_arg5) = m' ((c.tc : Thread Cert.FfaRefIdeal.nD Cert.FfaRefIdeal.τ).loc Cert.FfaRefIdeal.main_arg5)
          ∧ r.2.mem ((c.tc : Thread Cert.FfaRefIdeal.nD Cert.FfaRefIdeal.τ).loc Cert.FfaRefIdeal.main_arg6) = m' ((c.tc : Thread Cert.FfaRefIdeal.nD Cert.FfaRefIdeal.τ).loc Cert.FfaRefIdeal.main_arg6)
          ∧ r.2.mem ((c.tc : Thread Cert.FfaRefIdeal.nD Cert.FfaRefIdeal.τ).loc Cert.FfaRefIdeal.main_arg7) = m' ((c.tc : Thread Cert.FfaRefIdeal.nD Cert.FfaRefIdeal.τ).loc Cert.FfaRefIdeal.main_arg7)
          ∧ r.2.mem ((c.tc : Thread Cert.FfaRefIdeal.nD Cert.FfaRefIdeal.τ).loc Cert.FfaRefIdeal.main_arg8) = m' ((c.tc : Thread Cert.FfaRefIdeal.nD Cert.FfaRefIdeal.τ).loc Cert.FfaRefIdeal.main_arg8))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v27_0)) (v1 : (c : Dev Cert.QkvIdeal.nD) → Buf (Elt Ideal) ((c.tc : Thread Cert.QkvIdeal.nD Cert.QkvIdeal.τ).loc Cert.QkvIdeal.main_v27_1)) (v2 : (c : Dev Cert.QkvIdeal.nD) → Buf (Elt Ideal) ((c.tc : Thread Cert.QkvIdeal.nD Cert.QkvIdeal.τ).loc Cert.QkvIdeal.main_v27_2)) (v3 : (c : Dev Cert.QkvIdeal.nD) → Buf (Elt Ideal) ((c.tc : Thread Cert.QkvIdeal.nD Cert.QkvIdeal.τ).loc Cert.QkvIdeal.main_v27_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v27_0) = v0 c
          ∧ r.2.mem ((c.tc : Thread Cert.QkvIdeal.nD Cert.QkvIdeal.τ).loc Cert.QkvIdeal.main_v27_1) = v1 c
          ∧ r.2.mem ((c.tc : Thread Cert.QkvIdeal.nD Cert.QkvIdeal.τ).loc Cert.QkvIdeal.main_v27_2) = v2 c
          ∧ r.2.mem ((c.tc : Thread Cert.QkvIdeal.nD Cert.QkvIdeal.τ).loc Cert.QkvIdeal.main_v27_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v57) = v0 c
          ∧ r.2.mem ((c.tc : Thread Cert.QkvRefIdeal.nD Cert.QkvRefIdeal.τ).loc Cert.QkvRefIdeal.main_v82) = v1 c
          ∧ r.2.mem ((c.tc : Thread Cert.QkvRefIdeal.nD Cert.QkvRefIdeal.τ).loc Cert.QkvRefIdeal.main_v86) = v2 c
          ∧ r.2.mem ((c.tc : Thread Cert.QkvRefIdeal.nD Cert.QkvRefIdeal.τ).loc Cert.QkvRefIdeal.main_v88) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Moba_MobaIdeal : Prop :=
  IdealRules.named_const.Statement Cert.MobaIdeal.κ "mask" .f32 0xF149F2CA#32 ⊥
  ∧ IdealRules.named_const.Statement Cert.MobaIdeal.κ "to_log2" .f32 0x3E0293EE#32 (((Real.sqrt 128)⁻¹ * (Real.log 2)⁻¹ : ℝ) : EReal)

def algebraic_MobaIdeal_MobaRefIdeal_pre_finite_qk [hMobaIdeal : Cert.MobaIdeal.Facts] [hMobaRefIdeal : Cert.MobaRefIdeal.Facts] [hPre_finite_qk : Cert.Pre_finite_qk.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_qk m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v9)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v9) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v105) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3))

def Claim : Prop :=
  ∃ (hFfn : Cert.Ffn.Facts) (hFfnIdeal : Cert.FfnIdeal.Facts) (hFfnRefIdeal : Cert.FfnRefIdeal.Facts) (hFfa : Cert.Ffa.Facts) (hFfaIdeal : Cert.FfaIdeal.Facts) (hFfaRefIdeal : Cert.FfaRefIdeal.Facts) (hQkv : Cert.Qkv.Facts) (hQkvIdeal : Cert.QkvIdeal.Facts) (hQkvRefIdeal : Cert.QkvRefIdeal.Facts) (hMoba : Cert.Moba.Facts) (hMobaIdeal : Cert.MobaIdeal.Facts) (hMobaRefIdeal : Cert.MobaRefIdeal.Facts) (hPre_finite_qk : Cert.Pre_finite_qk.Facts),
    quiescent_Ffn (hFfn := hFfn)
    ∧ quiescent_FfnIdeal (hFfnIdeal := hFfnIdeal)
    ∧ quiescent_FfnRefIdeal (hFfnRefIdeal := hFfnRefIdeal)
    ∧ quiescent_Ffa (hFfa := hFfa)
    ∧ quiescent_FfaIdeal (hFfaIdeal := hFfaIdeal)
    ∧ quiescent_FfaRefIdeal (hFfaRefIdeal := hFfaRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Moba (hMoba := hMoba)
    ∧ quiescent_MobaIdeal (hMobaIdeal := hMobaIdeal)
    ∧ quiescent_MobaIdeal_pre_finite_qk (hMobaIdeal := hMobaIdeal) (hPre_finite_qk := hPre_finite_qk)
    ∧ quiescent_MobaRefIdeal (hMobaRefIdeal := hMobaRefIdeal)
    ∧ quiescent_MobaRefIdeal_pre_finite_qk (hMobaRefIdeal := hMobaRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Ffa_FfaIdeal
    ∧ algebraic_FfaIdeal_FfaRefIdeal (hFfaIdeal := hFfaIdeal) (hFfaRefIdeal := hFfaRefIdeal)
    ∧ preserves_Qkv_QkvIdeal
    ∧ algebraic_QkvIdeal_QkvRefIdeal (hQkvIdeal := hQkvIdeal) (hQkvRefIdeal := hQkvRefIdeal)
    ∧ preserves_Moba_MobaIdeal
    ∧ algebraic_MobaIdeal_MobaRefIdeal_pre_finite_qk (hMobaIdeal := hMobaIdeal) (hMobaRefIdeal := hMobaRefIdeal) (hPre_finite_qk := hPre_finite_qk)
-- ==== Pre_finite_qk.lean ====
abbrev S8x8x4096x128 : Shape := ⟨4, ![8, 8, 4096, 128]⟩
abbrev S8x8x128x4096 : Shape := ⟨4, ![8, 8, 128, 4096]⟩
abbrev S8x16x1024 : Shape := ⟨3, ![8, 16, 1024]⟩
abbrev S_ : Shape := ⟨0, ![]⟩

class Facts : Prop where
  bcast_S_S8x8x4096x128 : S_.BroadcastsInDim S8x8x4096x128 (![] : Fin 0 → Fin S8x8x4096x128.rank)
  reducesTo_S8x8x4096x128_S_d0_1_2_3 : S8x8x4096x128.ReducesTo [0, 1, 2, 3] S_
  h_S_ : 0 < S_.numel
  bitsLt_bf16_f32 : FTy.bits .bf16 < FTy.bits .f32

variable [Facts]

def fn {F : FTy → Type} [FloatOps F] (main_arg0 : FVec F S8x8x4096x128 .f32) (main_arg1 : FVec F S8x8x4096x128 .bf16) (main_arg2 : FVec F S8x8x128x4096 .bf16) (main_arg3 : FVec F S8x16x1024 .f32) : IVec S_ 1 :=
  let main_v0 : FVec F S8x8x4096x128 .f32 := Host.absf main_arg0
  let main_cst : FVec F S_ .f32 := constant S_ .f32 0x7F800000#32
  let main_v1 : FVec F S8x8x4096x128 .f32 := broadcastInDim S8x8x4096x128 ![] bcast_S_S8x8x4096x128 main_cst
  let main_v2 : IVec S8x8x4096x128 1 := cmpf .olt main_v0 main_v1
  let main_c : IVec S_ 1 := constantI S_ 1 1#1
  let main_v3 : IVec S_ 1 := (fun x v => Host.reduce IntOp.andi x v reducesTo_S8x8x4096x128_S_d0_1_2_3 h_S_) main_v2 main_c
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  let main_c_1 : IVec S_ 1 := constantI S_ 1 1#1
  let main_v8 : IVec S_ 1 := (fun x v => Host.reduce IntOp.andi x v reducesTo_S8x8x4096x128_S_d0_1_2_3 h_S_) main_v7 main_c_1
  let main_v9 : IVec S_ 1 := andi main_v3 main_v8
  main_v9
-- ==== Ffn.lean ====
abbrev S32768x1024 : Shape := ⟨2, ![32768, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x1024x2816, .bf16⟩
  | .hbm, ⟨7, _⟩ => ⟨S4x1024x2816, .bf16⟩
  | .hbm, ⟨8, _⟩ => ⟨S4x2816x1024, .bf16⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 63
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Ffa.lean ====
abbrev S32768x1024 : Shape := ⟨2, ![32768, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S2x1024x1024 : Shape := ⟨3, ![2, 1024, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S32768x1024, .bf16⟩
  | .hbm, ⟨7, _⟩ => ⟨S2x1024x1024, .f32⟩
  | .hbm, ⟨8, _⟩ => ⟨S1x1024, .f32⟩
  | .hbm, ⟨9, _⟩ => ⟨S4x1024x2816, .bf16⟩
  | .hbm, ⟨10, _⟩ => ⟨S4x1024x2816, .bf16⟩
  | .hbm, ⟨11, _⟩ => ⟨S4x2816x1024, .bf16⟩
  | .hbm, ⟨12, _⟩ => ⟨S2x1024x1024, .bf16⟩
  | .hbm, ⟨13, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfaRefIdeal.lean ====
abbrev S32768x1024 : Shape := ⟨2, ![32768, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S32768x1024, .bf16⟩
  | .hbm, ⟨7, _⟩ => ⟨S2x1024x1024, .f32⟩
  | .hbm, ⟨8, _⟩ => ⟨S1x1024, .f32⟩
  | .hbm, ⟨9, _⟩ => ⟨S32768x1024, .f32⟩
  | .hbm, ⟨10, _⟩ => ⟨S1x1024x1024, .f32⟩
  | .hbm, ⟨11, _⟩ => ⟨S1024x1024, .f32⟩
  | .hbm, ⟨12, _⟩ => ⟨S32768x1024, .f32⟩
  | .hbm, ⟨13, _⟩ => ⟨S1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1x1024x2816, .f32⟩
  | .hbm, ⟨49, _⟩ => ⟨S1024x2816, .f32⟩
  | .hbm, ⟨50, _⟩ => ⟨S1x1024x2816, .f32⟩
  | .hbm, ⟨51, _⟩ => ⟨S1024x2816, .f32⟩
  | .hbm, ⟨52, _⟩ => ⟨S1x2816x1024, .f32⟩
  | .hbm, ⟨53, _⟩ => ⟨S2816x1024, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S_, .f32⟩
  | .hbm, ⟨58, _⟩ => ⟨S32768x2816, .f32⟩
  | .hbm, ⟨59, _⟩ => ⟨S32768x2816, .f32⟩
  | .hbm, ⟨60, _⟩ => ⟨S_, .f32⟩
  | .hbm, ⟨61, _⟩ => ⟨S32768x2816, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x2816, .f32⟩
  | .hbm, ⟨66, _⟩ => ⟨S32768x1024, .f32⟩
  | .hbm, ⟨67, _⟩ => ⟨S1024, .f32⟩
  | .hbm, ⟨68, _⟩ => ⟨S32768x1024, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S1x1024, .f32⟩
  | .hbm, ⟨82, _⟩ => ⟨S32768x1024, .f32⟩
  | .hbm, ⟨83, _⟩ => ⟨S32768x1024, .f32⟩
  | .hbm, ⟨84, _⟩ => ⟨S_, .f32⟩
  | .hbm, ⟨85, _⟩ => ⟨S32768x1024, .f32⟩
  | .hbm, ⟨86, _⟩ => ⟨S32768x1024, .f32⟩
  | .hbm, ⟨87, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== Qkv.lean ====
abbrev S8x4096x1024 : Shape := ⟨3, ![8, 4096, 1024]⟩
abbrev S1x1024 : Shape := ⟨2, ![1, 1024]⟩
abbrev S2x1024x3072 : Shape := ⟨3, ![2, 1024, 3072]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S8x8x4096x128 : Shape := ⟨4, ![8, 8, 4096, 128]⟩
abbrev S8x8x128x4096 : Shape := ⟨4, ![8, 8, 128, 4096]⟩
abbrev S8x16x1x1024 : Shape := ⟨4, ![8, 16, 1, 1024]⟩
abbrev S1x1024x1024 : Shape := ⟨3, ![1, 1024, 1024]⟩
abbrev S1x1024x3072 : Shape := ⟨3, ![1, 1024, 3072]⟩
abbrev S1024x128 : Shape := ⟨2, ![1024, 128]⟩
abbrev S1x8x1024x128 : Shape := ⟨4, ![1, 8, 1024, 128]⟩
abbrev S1x8x128x1024 : Shape := ⟨4, ![1, 8, 128, 1024]⟩
abbrev S1x4x1x1024 : Shape := ⟨4, ![1, 4, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S256x128 : Shape := ⟨2, ![256, 128]⟩
abbrev S1x1x256x128 : Shape := ⟨4, ![1, 1, 256, 128]⟩
abbrev S128x256 : Shape := ⟨2, ![128, 256]⟩
abbrev S1x1x128x256 : Shape := ⟨4, ![1, 1, 128, 256]⟩
abbrev S128 : Shape := ⟨1, ![128]⟩
abbrev S1x128 : Shape := ⟨2, ![1, 128]⟩
abbrev S1x1x1x128 : Shape := ⟨4, ![1, 1, 1, 128]⟩

abbrev nBuf : Space → Nat
  | .hbm => 42
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S2x1024x3072, .f32⟩
  | .hbm, ⟨3, _⟩ => ⟨S2x1024x3072, .bf16⟩
  | .hbm, ⟨4, _⟩ => ⟨S4096, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S_, .f32⟩
  | .hbm, ⟨29, _⟩ => ⟨S4096x96, .f32⟩
  | .hbm, ⟨30, _⟩ => ⟨S_, .f32⟩
  | .hbm, ⟨31, _⟩ => ⟨S4096x16, .f32⟩
  | .hbm, ⟨32, _⟩ => ⟨S_, .f32⟩
  | .hbm, ⟨33, _⟩ => ⟨S4096x96, .f32⟩
  | .hbm, ⟨34, _⟩ => ⟨S4096x128, .f32⟩
  | .hbm, ⟨35, _⟩ => ⟨S4096x16, .f32⟩
  | .hbm, ⟨36, _⟩ => ⟨S4096x128, .f32⟩
  | .hbm, ⟨37, _⟩ => ⟨S4096x128, .f32⟩
  | .hbm, ⟨38, _⟩ => ⟨S8x8x4096x128, .f32⟩
  | .hbm, ⟨39, _⟩ => ⟨S8x8x4096x128, .bf16⟩
  | .hbm, ⟨40, _⟩ => ⟨S8x8x128x4096, .bf16⟩
  | .hbm, ⟨41, _⟩ => ⟨S8x16x1x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x8x1024x128, .f32⟩
  | .local _ .vmem, ⟨11, _⟩ => ⟨S1x8x1024x128, .f32⟩
  | .local _ .vmem, ⟨12, _⟩ => ⟨S1x8x1024x128, .bf16⟩
  | .local _ .vmem, ⟨13, _⟩ => ⟨S1x8x1024x128, .bf16⟩
  | .local _ .vmem, ⟨14, _⟩ => ⟨S1x8x128x1024, .bf16⟩
  | .local _ .vmem, ⟨15, _⟩ => ⟨S1x8x128x1024, .bf16⟩
  | .local _ .vmem, ⟨16, _⟩ => ⟨S1x4x1x1024, .f32⟩
  | .local _ .vmem, ⟨17, _⟩ => ⟨S1x4x1x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== QkvRefIdeal.lean ====
abbrev S8x4096x1024 : Shape := ⟨3, ![8, 4096, 1024]⟩
abbrev S1x1024 : Shape := ⟨2, ![1, 1024]⟩
abbrev S2x1024x3072 : Shape := ⟨3, ![2, 1024, 3072]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S8x4096x3072 : Shape := ⟨3, ![8, 4096, 3072]⟩
abbrev S8x4096x3x8x128 : Shape := ⟨5, ![8, 4096, 3, 8, 128]⟩
abbrev S3x8x8x4096x128 : Shape := ⟨5, ![3, 8, 8, 4096, 128]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x8x8x4096x128 : Shape := ⟨5, ![1, 8, 8, 4096, 128]⟩
abbrev S8x8x4096x128 : Shape := ⟨4, ![8, 8, 4096, 128]⟩
abbrev S8x8x4096x16 : Shape := ⟨4, ![8, 8, 4096, 16]⟩
abbrev S1x1x4096x16 : Shape := ⟨4, ![1, 1, 4096, 16]⟩
abbrev S8x8x4096x96 : Shape := ⟨4, ![8, 8, 4096, 96]⟩
abbrev S8x8x16x256x128 : Shape := ⟨5, ![8, 8, 16, 256, 128]⟩
abbrev S8x8x16x128 : Shape := ⟨4, ![8, 8, 16, 128]⟩
abbrev S8x8x128x4096 : Shape := ⟨4, ![8, 8, 128, 4096]⟩
abbrev S8x16x8x128 : Shape := ⟨4, ![8, 16, 8, 128]⟩
abbrev S8x16x1x1024 : Shape := ⟨4, ![8, 16, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S2x1024x3072, .f32⟩
  | .hbm, ⟨3, _⟩ => ⟨S1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1x1024x3072, .f32⟩
  | .hbm, ⟨21, _⟩ => ⟨S1024x3072, .f32⟩
  | .hbm, ⟨22, _⟩ => ⟨S8x4096x3072, .f32⟩
  | .hbm, ⟨23, _⟩ => ⟨S8x4096x3x8x128, .f32⟩
  | .hbm, ⟨24, _⟩ => ⟨S3x8x8x4096x128, .f32⟩
  | .hbm, ⟨25, _⟩ => ⟨S4096, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S4096x1, .f32⟩
  | .hbm, ⟨43, _⟩ => ⟨S1x16, .f32⟩
  | .hbm, ⟨44, _⟩ => ⟨S4096x16, .f32⟩
  | .hbm, ⟨45, _⟩ => ⟨S4096x16, .f32⟩
  | .hbm, ⟨46, _⟩ => ⟨S4096x16, .f32⟩
  | .hbm, ⟨47, _⟩ => ⟨S4096x16, .f32⟩
  | .hbm, ⟨48, _⟩ => ⟨S4096x16, .f32⟩
  | .hbm, ⟨49, _⟩ => ⟨S1x8x8x4096x128, .f32⟩
  | .hbm, ⟨50, _⟩ => ⟨S8x8x4096x128, .f32⟩
  | .hbm, ⟨51, _⟩ => ⟨S8x8x4096x16, .f32⟩
  | .hbm, ⟨52, _⟩ => ⟨S8x8x4096x16, .f32⟩
  | .hbm, ⟨53, _⟩ => ⟨S1x1x4096x16, .f32⟩
  | .hbm, ⟨54, _⟩ => ⟨S8x8x4096x16, .f32⟩
  | .hbm, ⟨55, _⟩ => ⟨S8x8x4096x16, .f32⟩
  | .hbm, ⟨56, _⟩ => ⟨S1x1x4096x16, .f32⟩
  | .hbm, ⟨57, _⟩ => ⟨S8x8x4096x16, .f32⟩
  | .hbm, ⟨58, _⟩ => ⟨S8x8x4096x16, .f32⟩
  | .hbm, ⟨59, _⟩ => ⟨S8x8x4096x16, .f32⟩
  | .hbm, ⟨60, _⟩ => ⟨S1x1x4096x16, .f32⟩
  | .hbm, ⟨61, _⟩ => ⟨S8x8x4096x16, .f32⟩
  | .hbm, ⟨62, _⟩ => ⟨S8x8x4096x16, .f32⟩
  | .hbm, ⟨63, _⟩ => ⟨S1x1x4096x16, .f32⟩
  | .hbm, ⟨64, _⟩ => ⟨S8x8x4096x16, .f32⟩
  | .hbm, ⟨65, _⟩ => ⟨S8x8x4096x16, .f32⟩
  | .hbm, ⟨66, _⟩ => ⟨S8x8x4096x16, .f32⟩
  | .hbm, ⟨67, _⟩ => ⟨S8x8x4096x96, .f32⟩
  | .hbm, ⟨68, _⟩ => ⟨S8x8x4096x128, .f32⟩
  | .hbm, ⟨69, _⟩ => ⟨S1x8x8x4096x128, .f32⟩
  | .hbm, ⟨70, _⟩ => ⟨S8x8x4096x128, .f32⟩
  | .hbm, ⟨71, _⟩ => ⟨S8x8x4096x16, .f32⟩
  | .hbm, ⟨72, _⟩ => ⟨S8x8x4096x16, .f32⟩
  | .hbm, ⟨73, _⟩ => ⟨S1x1x4096x16, .f32⟩
  | .hbm, ⟨74, _⟩ => ⟨S8x8x4096x16, .f32⟩
  | .hbm, ⟨75, _⟩ => ⟨S8x8x4096x16, .f32⟩
  | .hbm, ⟨76, _⟩ => ⟨S1x1x4096x16, .f32⟩
  | .hbm, ⟨77, _⟩ => ⟨S8x8x4096x16, .f32⟩
  | .hbm, ⟨78, _⟩ => ⟨S8x8x4096x16, .f32⟩
  | .hbm, ⟨79, _⟩ => ⟨S8x8x4096x16, .f32⟩
  | .hbm, ⟨80, _⟩ => ⟨S1x1x4096x16, .f32⟩
  | .hbm, ⟨81, _⟩ => ⟨S8x8x4096x16, .f32⟩
  | .hbm, ⟨82, _⟩ => ⟨S8x8x4096x16, .f32⟩
  | .hbm, ⟨83, _⟩ => ⟨S1x1x4096x16, .f32⟩
  | .hbm, ⟨84, _⟩ => ⟨S8x8x4096x16, .f32⟩
  | .hbm, ⟨85, _⟩ => ⟨S8x8x4096x16, .f32⟩
  | .hbm, ⟨86, _⟩ => ⟨S8x8x4096x16, .f32⟩
  | .hbm, ⟨87, _⟩ => ⟨S8x8x4096x96, .f32⟩
  | .hbm, ⟨88, _⟩ => ⟨S8x8x4096x128, .f32⟩
  | .hbm, ⟨89, _⟩ => ⟨S8x8x16x256x128, .f32⟩
  | .hbm, ⟨90, _⟩ => ⟨S_, .f32⟩
  | .hbm, ⟨91, _⟩ => ⟨S8x8x16x128, .f32⟩
  | .hbm, ⟨92, _⟩ => ⟨S_, .f32⟩
  | .hbm, ⟨93, _⟩ => ⟨S8x8x16x128, .f32⟩
  | .hbm, ⟨94, _⟩ => ⟨S8x8x16x128, .f32⟩
  | .hbm, ⟨95, _⟩ => ⟨S8x8x4096x128, .bf16⟩
  | .hbm, ⟨96, _⟩ => ⟨S1x8x8x4096x128, .f32⟩
  | .hbm, ⟨97, _⟩ => ⟨S8x8x4096x128, .f32⟩
  | .hbm, ⟨98, _⟩ => ⟨S8x8x128x4096, .f32⟩
  | .hbm, ⟨99, _⟩ => ⟨S8x8x128x4096, .bf16⟩
  | .hbm, ⟨100, _⟩ => ⟨S8x16x8x128, .f32⟩
  | .hbm, ⟨101, _⟩ => ⟨S8x16x1x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_7 : Ref sig .tc := ⟨.hbm, 90, rfl⟩
abbrev main_v79 : Ref sig .tc := ⟨.hbm, 91, rfl⟩
abbrev main_cst_8 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩

abbrev nD : Nat := 1
abbrev τ : Topo := Topo.v7x

variable {F : FTy → Type} [FloatOps F]
-- ==== Moba.lean ====
abbrev S8x8x4096x128 : Shape := ⟨4, ![8, 8, 4096, 128]⟩
abbrev S8x8x128x4096 : Shape := ⟨4, ![8, 8, 128, 4096]⟩
abbrev S8x16x1024 : Shape := ⟨3, ![8, 16, 1024]⟩
abbrev S4096 : Shape := ⟨1, ![4096]⟩
abbrev S4096x1 : Shape := ⟨2, ![4096, 1]⟩
abbrev S_ : Shape := ⟨0, ![]⟩
abbrev S128 : Shape := ⟨1, ![128]⟩
abbrev S1x128 : Shape := ⟨2, ![1, 128]⟩
abbrev S4096x128 : Shape := ⟨2, ![4096, 128]⟩
abbrev S8x4096x1024 : Shape := ⟨3, ![8, 4096, 1024]⟩
abbrev S1x1x4096x128 : Shape := ⟨4, ![1, 1, 4096, 128]⟩
abbrev S1x1x128x4096 : Shape := ⟨4, ![1, 1, 128, 4096]⟩
abbrev S1x16x128 : Shape := ⟨3, ![1, 16, 128]⟩
abbrev S1x4096x128 : Shape := ⟨3, ![1, 4096, 128]⟩
abbrev S4096x256 : Shape := ⟨2, ![4096, 256]⟩
abbrev S16x128 : Shape := ⟨2, ![16, 128]⟩
abbrev S256x256 : Shape := ⟨2, ![256, 256]⟩
abbrev S1x1x256x128 : Shape := ⟨4, ![1, 1, 256, 128]⟩
abbrev S256x128 : Shape := ⟨2, ![256, 128]⟩
abbrev S16x256 : Shape := ⟨2, ![16, 256]⟩
abbrev S1x256 : Shape := ⟨2, ![1, 256]⟩
abbrev S112x256 : Shape := ⟨2, ![112, 256]⟩
abbrev S128x256 : Shape := ⟨2, ![128, 256]⟩
abbrev S32x8x256 : Shape := ⟨3, ![32, 8, 256]⟩
abbrev S8x256 : Shape := ⟨2, ![8, 256]⟩
abbrev S1x1x512x128 : Shape := ⟨4, ![1, 1, 512, 128]⟩
abbrev S512x128 : Shape := ⟨2, ![512, 128]⟩
abbrev S512x256 : Shape := ⟨2, ![512, 256]⟩
abbrev S1x1x768x128 : Shape := ⟨4, ![1, 1, 768, 128]⟩
abbrev S768x128 : Shape := ⟨2, ![768, 128]⟩
abbrev S768x256 : Shape := ⟨2, ![768, 256]⟩
abbrev S1x1x1024x128 : Shape := ⟨4, ![1, 1, 1024, 128]⟩
abbrev S1024x128 : Shape := ⟨2, ![1024, 128]⟩
abbrev S1024x256 : Shape := ⟨2, ![1024, 256]⟩
abbrev S256 : Shape := ⟨1, ![256]⟩
abbrev S1x1x128x256 : Shape := ⟨4, ![1, 1, 128, 256]⟩
abbrev S144x256 : Shape := ⟨2, ![144, 256]⟩
abbrev S1x256x128 : Shape := ⟨3, ![1, 256, 128]⟩
abbrev S1x1x128x512 : Shape := ⟨4, ![1, 1, 128, 512]⟩
abbrev S128x512 : Shape := ⟨2, ![128, 512]⟩
abbrev S16x512 : Shape := ⟨2, ![16, 512]⟩
abbrev S144x512 : Shape := ⟨2, ![144, 512]⟩
abbrev S1x1x128x768 : Shape := ⟨4, ![1, 1, 128, 768]⟩
abbrev S128x768 : Shape := ⟨2, ![128, 768]⟩
abbrev S16x768 : Shape := ⟨2, ![16, 768]⟩
abbrev S144x768 : Shape := ⟨2, ![144, 768]⟩
abbrev S1x1x128x1024 : Shape := ⟨4, ![1, 1, 128, 1024]⟩
abbrev S128x1024 : Shape := ⟨2, ![128, 1024]⟩
abbrev S16x1024 : Shape := ⟨2, ![16, 1024]⟩
abbrev S144x1024 : Shape := ⟨2, ![144, 1024]⟩

abbrev nBuf : Space → Nat
  | .hbm => 31
  | .vmem => 15
  | .smem => 0
  | _ => 0

abbrev bufTy : (tb : Table) → Fin (tcTables nBuf tb) → BufTy
  | .hbm, ⟨0, _⟩ => ⟨S8x8x4096x128, .f32⟩
  | .hbm, ⟨1, _⟩ => ⟨S8x8x4096x128, .bf16⟩
  | .hbm, ⟨2, _⟩ => ⟨S8x8x128x4096, .bf16⟩
  | .hbm, ⟨3, _⟩ => ⟨S8x16x1024, .f32⟩
  | .hbm, ⟨4, _⟩ => ⟨S4096, .i32⟩
  | .hbm, ⟨5, _⟩ => ⟨S4096x1, .i32⟩
  | .hbm, ⟨6, _⟩ => ⟨S_, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x1, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S4096x1, .i32⟩
  | .hbm, ⟨15, _⟩ => ⟨S4096x1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S128, .i32⟩
  | .hbm, ⟨25, _⟩ => ⟨S1x128, .i32⟩
  | .hbm, ⟨26, _⟩ => ⟨S4096x128, .i32⟩
  | .hbm, ⟨27, _⟩ => ⟨S4096x128, .i32⟩
  | .hbm, ⟨28, _⟩ => ⟨S4096x128, .i1⟩
  | .hbm, ⟨29, _⟩ => ⟨S4096x128, .bf16⟩
  | .hbm, ⟨30, _⟩ => ⟨S8x4096x1024, .bf16⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S1x16x128, .f32⟩
  | .local _ .vmem, ⟨7, _⟩ => ⟨S1x16x128, .f32⟩
  | .local _ .vmem, ⟨8, _⟩ => ⟨S4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | _, _ => ⟨S8x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MobaIdeal.lean ====
variable {F : FTy → Type} [FloatOps F] [Named F]
def κ : String → Option EReal := fun
  | "mask" => some ⊥
  | "to_log2" => some (((Real.sqrt 128)⁻¹ * (Real.log 2)⁻¹ : ℝ) : EReal)
  | _ => none
-- ==== MobaRefIdeal.lean ====
abbrev S8x8x4096x128 : Shape := ⟨4, ![8, 8, 4096, 128]⟩
abbrev S8x8x128x4096 : Shape := ⟨4, ![8, 8, 128, 4096]⟩
abbrev S8x16x1024 : Shape := ⟨3, ![8, 16, 1024]⟩
abbrev S8x8x16x256x128 : Shape := ⟨5, ![8, 8, 16, 256, 128]⟩
abbrev S8x16x8x128 : Shape := ⟨4, ![8, 16, 8, 128]⟩
abbrev S_ : Shape := ⟨0, ![]⟩
abbrev S16 : Shape := ⟨1, ![16]⟩
abbrev S16x1x1 : Shape := ⟨3, ![16, 1, 1]⟩
abbrev S8x8x16x256x16 : Shape := ⟨5, ![8, 8, 16, 256, 16]⟩
abbrev S1x1x16 : Shape := ⟨3, ![1, 1, 16]⟩
abbrev S16x1x16 : Shape := ⟨3, ![16, 1, 16]⟩
abbrev S8x8x16x256x3 : Shape := ⟨5, ![8, 8, 16, 256, 3]⟩
abbrev S1x1x16x1x1 : Shape := ⟨5, ![1, 1, 16, 1, 1]⟩
abbrev S8 : Shape := ⟨1, ![8]⟩
abbrev S8x1x1x1x1 : Shape := ⟨5, ![8, 1, 1, 1, 1]⟩
abbrev S1x8x1x1x1 : Shape := ⟨5, ![1, 8, 1, 1, 1]⟩
abbrev S8x8x16x256x3x1 : Shape := ⟨6, ![8, 8, 16, 256, 3, 1]⟩
abbrev S8x8x16x256x3x3 : Shape := ⟨6, ![8, 8, 16, 256, 3, 3]⟩
abbrev S8x8x16x256x3x256x128 : Shape := ⟨7, ![8, 8, 16, 256, 3, 256, 128]⟩
abbrev S8x8x16x256x3x256 : Shape := ⟨6, ![8, 8, 16, 256, 3, 256]⟩
abbrev S8x8x16x256x256 : Shape := ⟨5, ![8, 8, 16, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x8x16x256x768 : Shape := ⟨5, ![8, 8, 16, 256, 768]⟩
abbrev S8x8x16x256x1024 : Shape := ⟨5, ![8, 8, 16, 256, 1024]⟩
abbrev S8x8x16x256 : Shape := ⟨4, ![8, 8, 16, 256]⟩
abbrev S8x8x16x256x1 : Shape := ⟨5, ![8, 8, 16, 256, 1]⟩
abbrev S8x16x256x8x128 : Shape := ⟨5, ![8, 16, 256, 8, 128]⟩
abbrev S8x4096x1024 : Shape := ⟨3, ![8, 4096, 1024]⟩

abbrev nBuf : Space → Nat
  | .hbm => 141
  | .vmem => 0
  | .smem => 0
  | _ => 0

abbrev hbmTy0_0 (i : Nat) : BufTy := match i % 128 with
  | 0 => ⟨S8x8x4096x128, .f32⟩
  | 1 => ⟨S8x8x4096x128, .bf16⟩
  | 2 => ⟨S8x8x128x4096, .bf16⟩
  | 3 => ⟨S8x16x1024, .f32⟩
  | 4 => ⟨S8x8x4096x128, .f32⟩
  | 5 => ⟨S8x8x128x4096, .f32⟩
  | 6 => ⟨S8x8x4096x128, .f32⟩
  | 7 => ⟨S8x8x16x256x128, .f32⟩
  | 8 => ⟨S8x8x16x256x128, .f32⟩
  | 9 => ⟨S8x8x16x256x128, .f32⟩
  | 10 => ⟨S8x16x8x128, .f32⟩
  | 11 => ⟨S_, .f32⟩
  | 12 => ⟨S_, .f32⟩
  | 13 => ⟨S_, .f32⟩
  | 14 => ⟨S_, .f32⟩
  | 15 => ⟨S16, .i32⟩
  | 16 => ⟨S16x1x1, .i32⟩
  | 17 => ⟨S8x8x16x256x16, .f32⟩
  | 18 => ⟨S16, .i32⟩
  | 19 => ⟨S1x1x16, .i32⟩
  | 20 => ⟨S16x1x16, .i32⟩
  | 21 => ⟨S16x1x16, .i32⟩
  | 22 => ⟨S16x1x16, .i1⟩
  | 23 => ⟨S_, .f32⟩
  | 24 => ⟨S_, .f32⟩
  | 25 => ⟨S8x8x16x256x16, .i1⟩
  | 26 => ⟨S8x8x16x256x16, .f32⟩
  | 27 => ⟨S8x8x16x256x16, .f32⟩
  | 28 => ⟨S8x8x16x256x3, .f32⟩
  | 29 => ⟨S8x8x16x256x3, .i32⟩
  | 30 => ⟨S1x1x16x1x1, .i32⟩
  | 31 => ⟨S8x8x16x256x3, .i32⟩
  | 32 => ⟨S8x8x16x256x3, .i1⟩
  | 33 => ⟨S8, .i32⟩
  | 34 => ⟨S8x1x1x1x1, .i32⟩
  | 35 => ⟨S8, .i32⟩
  | 36 => ⟨S1x8x1x1x1, .i32⟩
  | 37 => ⟨S_, .i32⟩
  | 38 => ⟨S8x1x1x1x1, .i32⟩
  | 39 => ⟨S8x1x1x1x1, .i1⟩
  | 40 => ⟨S_, .i32⟩
  | 41 => ⟨S8x1x1x1x1, .i32⟩
  | 42 => ⟨S8x1x1x1x1, .i32⟩
  | 43 => ⟨S8x1x1x1x1, .i32⟩
  | 44 => ⟨S_, .i32⟩
  | 45 => ⟨S1x8x1x1x1, .i32⟩
  | 46 => ⟨S1x8x1x1x1, .i1⟩
  | 47 => ⟨S_, .i32⟩
  | 48 => ⟨S1x8x1x1x1, .i32⟩
  | 49 => ⟨S1x8x1x1x1, .i32⟩
  | 50 => ⟨S1x8x1x1x1, .i32⟩
  | 51 => ⟨S_, .i32⟩
  | 52 => ⟨S8x8x16x256x3, .i32⟩
  | 53 => ⟨S8x8x16x256x3, .i1⟩
  | 54 => ⟨S_, .i32⟩
  | 55 => ⟨S8x8x16x256x3, .i32⟩
  | 56 => ⟨S8x8x16x256x3, .i32⟩
  | 57 => ⟨S8x8x16x256x3, .i32⟩
  | 58 => ⟨S8x8x16x256x3, .i32⟩
  | 59 => ⟨S8x8x16x256x3, .i32⟩
  | 60 => ⟨S8x8x16x256x3x1, .i32⟩
  | 61 => ⟨S8x8x16x256x3x1, .i32⟩
  | 62 => ⟨S8x8x16x256x3x1, .i32⟩
  | 63 => ⟨S8x8x16x256x3x3, .i32⟩
  | 64 => ⟨S8x8x16x256x3x256x128, .f32⟩
  | 65 => ⟨S_, .i32⟩
  | 66 => ⟨S8x1x1x1x1, .i32⟩
  | 67 => ⟨S8x1x1x1x1, .i1⟩
  | 68 => ⟨S_, .i32⟩
  | 69 => ⟨S8x1x1x1x1, .i32⟩
  | 70 => ⟨S8x1x1x1x1, .i32⟩
  | 71 => ⟨S8x1x1x1x1, .i32⟩
  | 72 => ⟨S_, .i32⟩
  | 73 => ⟨S1x8x1x1x1, .i32⟩
  | 74 => ⟨S1x8x1x1x1, .i1⟩
  | 75 => ⟨S_, .i32⟩
  | 76 => ⟨S1x8x1x1x1, .i32⟩
  | 77 => ⟨S1x8x1x1x1, .i32⟩
  | 78 => ⟨S1x8x1x1x1, .i32⟩
  | 79 => ⟨S_, .i32⟩
  | 80 => ⟨S8x8x16x256x3, .i32⟩
  | 81 => ⟨S8x8x16x256x3, .i1⟩
  | 82 => ⟨S_, .i32⟩
  | 83 => ⟨S8x8x16x256x3, .i32⟩
  | 84 => ⟨S8x8x16x256x3, .i32⟩
  | 85 => ⟨S8x8x16x256x3, .i32⟩
  | 86 => ⟨S8x8x16x256x3, .i32⟩
  | 87 => ⟨S8x8x16x256x3, .i32⟩
  | 88 => ⟨S8x8x16x256x3x1, .i32⟩
  | 89 => ⟨S8x8x16x256x3x1, .i32⟩
  | 90 => ⟨S8x8x16x256x3x1, .i32⟩
  | 91 => ⟨S8x8x16x256x3x3, .i32⟩
  | 92 => ⟨S8x8x16x256x3x256x128, .f32⟩
  | 93 => ⟨S8x8x16x256x3x256, .f32⟩
  | 94 => ⟨S8x8x16x256x3x256, .f32⟩
  | 95 => ⟨S8x8x16x256x3x256, .f32⟩
  | 96 => ⟨S8x8x16x256x3x1, .i1⟩
  | 97 => ⟨S_, .f32⟩
  | 98 => ⟨S_, .f32⟩
  | 99 => ⟨S8x8x16x256x3x256, .i1⟩
  | 100 => ⟨S8x8x16x256x3x256, .f32⟩
  | 101 => ⟨S8x8x16x256x3x256, .f32⟩
  | 102 => ⟨S8x8x16x256x256, .f32⟩
  | 103 => ⟨S8x8x16x256x256, .f32⟩
  | 104 => ⟨S8x8x16x256x256, .f32⟩
  | 105 => ⟨S256, .i32⟩
  | 106 => ⟨S1x256, .i32⟩
  | 107 => ⟨S256x1, .i32⟩
  | 108 => ⟨S256x256, .i32⟩
  | 109 => ⟨S256x256, .i32⟩
  | 110 => ⟨S256x256, .i1⟩
  | 111 => ⟨S_, .f32⟩
  | 112 => ⟨S_, .f32⟩
  | 113 => ⟨S8x8x16x256x256, .i1⟩
  | 114 => ⟨S8x8x16x256x256, .f32⟩
  | 115 => ⟨S8x8x16x256x256, .f32⟩
  | 116 => ⟨S8x8x16x256x768, .f32⟩
  | 117 => ⟨S8x8x16x256x1024, .f32⟩
  | 118 => ⟨S_, .f32⟩
  | 119 => ⟨S8x8x16x256, .f32⟩
  | 120 => ⟨S_, .f32⟩
  | 121 => ⟨S8x8x16x256, .f32⟩
  | 122 => ⟨S8x8x16x256, .f32⟩
  | 123 => ⟨S8x8x16x256x1, .f32⟩
  | 124 => ⟨S8x8x16x256x1024, .f32⟩
  | 125 => ⟨S8x8x16x256x1024, .f32⟩
  | 126 => ⟨S8x8x16x256x1024, .f32⟩
  | 127 => ⟨S_, .f32⟩
  | _ => ⟨S8x8x4096x128, .f32⟩

abbrev hbmTy0_1 (i : Nat) : BufTy := match i % 128 with
  | 0 => ⟨S8x8x16x256, .f32⟩
  | 1 => ⟨S8x8x16x256x1, .f32⟩
  | 2 => ⟨S8x8x16x256x1024, .f32⟩
  | 3 => ⟨S8x8x16x256x1024, .f32⟩
  | 4 => ⟨S8x8x16x256x768, .f32⟩
  | 5 => ⟨S8x8x16x256x3x256, .f32⟩
  | 6 => ⟨S8x8x16x256x256, .f32⟩
  | 7 => ⟨S8x8x16x256x128, .f32⟩
  | 8 => ⟨S8x8x16x256x128, .f32⟩
  | 9 => ⟨S8x8x16x256x128, .f32⟩
  | 10 => ⟨S8x16x256x8x128, .f32⟩
  | 11 => ⟨S8x4096x1024, .f32⟩
  | 12 => ⟨S8x4096x1024, .bf16⟩
  | _ => ⟨S8x8x4096x128, .f32⟩

abbrev hbmTy (i : Nat) : BufTy := match i / 128 with
  | 0 => hbmTy0_0 i
  | 1 => hbmTy0_1 i
  | _ => ⟨S8x8x4096x128, .f32⟩

abbrev bufTy : (tb : Table) → Fin (tcTables nBuf tb) → BufTy
  | .hbm, ⟨i, _⟩ => hbmTy i
  | _, _ => ⟨S8x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_values : Ref sig .tc := ⟨.hbm, 28, rfl⟩
abbrev main_indices : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_14 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_15 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_17 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Proof.Ffn.Row.lean ====
/- One token's feed-forward layer as a function of its row of activations: RMS normalisation, the gated hidden
   layer, the projection back, a second normalisation and the residual. Both programs are read against it. -/
module

public import Idealize.ShloMosaic.Lib.Pointwise

@[expose] public section

noncomputable section

namespace Cert.FfnMath

open Idealize.ShloMosaic

/-- Row `r` of a matrix. -/
abbrev rowOf {n k : ℕ} (x : (⟨2, ![n, k]⟩ : Shape).Idx → EReal) (r : Fin n) : Fin k → EReal := fun j => x (ix2 r j)
/-- The first matrix of a stack. -/
abbrev matOf {n a b : ℕ} [NeZero n] (x : (⟨3, ![n, a, b]⟩ : Shape).Idx → EReal) : Fin a → Fin b → EReal := fun i j => x (ix3 0 i j)

/-- The reciprocal root of a row's mean square, the two literals (the width and the guard) as the programs print them. -/
def invRms (x : Fin 1024 → EReal) : EReal :=
  Ideal.rsqrt (Ideal.div (∑ k : Fin 1024, x k * x k) (Ideal.ofBits .f32 0x44800000#32) + Ideal.ofBits .f32 0x358637BD#32)

/-- A row normalised by its root mean square and scaled by the weights `g`. -/
def normed (x g : Fin 1024 → EReal) (j : Fin 1024) : EReal := x j * invRms x * g j

/-- The gated hidden layer: SiLU of the gate product times the up product. -/
def hidden (x : Fin 1024 → EReal) (wg wu : Fin 1024 → Fin 2816 → EReal) (f : Fin 2816) : EReal :=
  (∑ k : Fin 1024, x k * wg k f) * Ideal.div 1 (1 + Ideal.exp (-(∑ k : Fin 1024, x k * wg k f)))
    * (∑ k : Fin 1024, x k * wu k f)

/-- The hidden layer projected back to the model width. -/
def down (u : Fin 2816 → EReal) (wd : Fin 2816 → Fin 1024 → EReal) (j : Fin 1024) : EReal :=
  ∑ f : Fin 2816, u f * wd f j

/-- The residual plus half the normalised projection. -/
def residual (x y g : Fin 1024 → EReal) (j : Fin 1024) : EReal :=
  x j + Ideal.ofBits .f32 0x3F000000#32 * normed y g j

/-- The whole layer on one row. -/
def layer (x gpre gpost : Fin 1024 → EReal) (wg wu : Fin 1024 → Fin 2816 → EReal) (wd : Fin 2816 → Fin 1024 → EReal) :
    Fin 1024 → EReal :=
  residual x (down (hidden (normed x gpre) wg wu) wd) gpost

/-- The layer on every token: the activations, the two norm weights and the stacks of weights, of which it uses the first. -/
def tokens (h : (⟨2, ![32768, 1024]⟩ : Shape).Idx → EReal) (gpre gpost : (⟨2, ![1, 1024]⟩ : Shape).Idx → EReal)
    (wg wu : (⟨3, ![4, 1024, 2816]⟩ : Shape).Idx → EReal) (wd : (⟨3, ![4, 2816, 1024]⟩ : Shape).Idx → EReal) :
    (⟨2, ![32768, 1024]⟩ : Shape).Idx → EReal := fun i =>
  layer (rowOf h (i 0)) (rowOf gpre 0) (rowOf gpost 0) (matOf wg) (matOf wu) (matOf wd) (i 1)

/-- Where a row of a block and the weights staged beside it are a token's row and the arguments, the layer is the token's. -/
theorem layer_eq_tokens {x gpre gpost : Fin 1024 → EReal} {wg wu : Fin 1024 → Fin 2816 → EReal} {wd : Fin 2816 → Fin 1024 → EReal}
    {h : (⟨2, ![32768, 1024]⟩ : Shape).Idx → EReal} {gpre' gpost' : (⟨2, ![1, 1024]⟩ : Shape).Idx → EReal}
    {wg' wu' : (⟨3, ![4, 1024, 2816]⟩ : Shape).Idx → EReal} {wd' : (⟨3, ![4, 2816, 1024]⟩ : Shape).Idx → EReal}
    {i : (⟨2, ![32768, 1024]⟩ : Shape).Idx} {j : Fin 1024} (hj : j = i 1) (hx : ∀ k, x k = h (ix2 (i 0) k))
    (hpre : ∀ k, gpre k = gpre' (ix2 0 k)) (hpost : ∀ k, gpost k = gpost' (ix2 0 k)) (hwg : ∀ a b, wg a b = wg' (ix3 0 a b))
    (hwu : ∀ a b, wu a b = wu' (ix3 0 a b)) (hwd : ∀ a b, wd a b = wd' (ix3 0 a b)) :
    layer x gpre gpost wg wu wd j = tokens h gpre' gpost' wg' wu' wd' i := by
  obtain rfl : x = rowOf h (i 0) := funext hx
  obtain rfl : gpre = rowOf gpre' 0 := funext hpre
  obtain rfl : gpost = rowOf gpost' 0 := funext hpost
  obtain rfl : wg = matOf wg' := funext fun a => funext (hwg a)
  obtain rfl : wu = matOf wu' := funext fun a => funext (hwu a)
  obtain rfl : wd = matOf wd' := funext fun a => funext (hwd a)
  subst hj
  rfl

end Cert.FfnMath

end
-- ==== Proof.Ffn.Ref.lean ====
/- What the reference's feed-forward layer leaves: the row function of `Ffn.Row` on every token. -/
module

public import proofs.«01_k».proof.Proof.Ffn.Row
public import proofs.«01_k».proof.Proof.Gen.FfnRefIdeal.Run
public import Idealize.ShloMosaic.Lib.Tactic.CleanTypes

@[expose] public section

set_option maxRecDepth 16384

noncomputable section

namespace Cert.FfnMath

open Idealize.ShloMosaic Cert.FfnRefIdeal

/-- The reference's result is the layer on every token of its arguments. -/
theorem ref_tokens (m : (ℓ : Loc nD τ sig) → Buf (Elt Ideal) ℓ) (c : Dev nD) :
    Value.res_out0 (F := Ideal) m c = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  have at_point : ∀ (t : Fin 32768) (j : Fin 1024), Value.res_out0 (F := Ideal) m c (ix2 t j)
      = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (ix2 t j) := by
    intro t j
    unfold Value.res_out0 Value.res_main_v41 tokens layer residual down hidden normed invRms
    clean_types
    pointwise
  funext i
  have hi : i = ix2 (n0 := 32768) (n1 := 1024) (i 0) (i 1) := eq_ix2 i
  rw [hi]
  exact at_point _ _

end Cert.FfnMath

end
-- ==== Proof.Ffn.Pieces.lean ====
/- What the four row groups of one block compute: each is the row function of `Ffn.Row`, although the printed program
   splits their operations differently. -/
module

public import proofs.«01_k».proof.Proof.Ffn.Row
public import proofs.«01_k».proof.Proof.Gen.FfnIdeal.Skeleton

@[expose] public section

set_option maxRecDepth 16384

noncomputable section

namespace Cert.FfnMath

open Idealize.ShloMosaic Cert.FfnIdeal Cert.FfnIdeal.Gen

section
variable (x : Vec Ideal S256x1024 .f32) (g : Vec Ideal S1x1024 .f32) (wg wu : Vec Ideal S1x1024x2816 .bf16)
  (u : FVec Ideal S256x2816 .bf16) (wd : Vec Ideal S1x2816x1024 .bf16) (r : Fin 256)

/-- The hidden layer as the first group computes it. -/
theorem hidden_first (f : Fin 2816) :
    k0_pay2 (F := Ideal) x g wg wu (ix2 r f) = hidden (normed (rowOf x r) (rowOf g 0)) (matOf wg) (matOf wu) f := by
  unfold hidden normed invRms
  pointwise [k0_pay2]
  rfl

/-- The hidden layer as the second group computes it, its normalisation begun apart. -/
theorem hidden_second (f : Fin 2816) :
    k0_pay4 (F := Ideal) g (k0_pay3 (F := Ideal) x) wg wu (ix2 r f) = hidden (normed (rowOf x r) (rowOf g 0)) (matOf wg) (matOf wu) f := by
  unfold hidden normed invRms
  pointwise [k0_pay4, k0_pay3]
  rfl

/-- The hidden layer as the third group computes it. -/
theorem hidden_third (f : Fin 2816) :
    k0_pay7 (F := Ideal) x g wg wu (ix2 r f) = hidden (normed (rowOf x r) (rowOf g 0)) (matOf wg) (matOf wu) f := by
  unfold hidden normed invRms
  pointwise [k0_pay7]
  rfl

/-- The hidden layer as the fourth group computes it. -/
theorem hidden_fourth (f : Fin 2816) :
    k0_pay11 (F := Ideal) x g wg wu (ix2 r f) = hidden (normed (rowOf x r) (rowOf g 0)) (matOf wg) (matOf wu) f := by
  unfold hidden normed invRms
  pointwise [k0_pay11]
  rfl

/-- The first group's store, from its hidden layer. -/
theorem out_first (j : Fin 1024) :
    k0_pay5 (F := Ideal) u wd x g (ix2 r j) = residual (rowOf x r) (down (rowOf u r) (matOf wd)) (rowOf g 0) j := by
  unfold residual normed invRms down
  pointwise [k0_pay5]

/-- The second group's store. -/
theorem out_second (j : Fin 1024) :
    k0_pay9 (F := Ideal) (k0_pay6 (F := Ideal) u wd) x g (k0_pay8 (F := Ideal) u wd) (ix2 r j)
      = residual (rowOf x r) (down (rowOf u r) (matOf wd)) (rowOf g 0) j := by
  unfold residual normed invRms down
  pointwise [k0_pay9, k0_pay6, k0_pay8]

/-- The third group's store. -/
theorem out_third (j : Fin 1024) :
    k0_pay12 (F := Ideal) (k0_pay10 (F := Ideal) u wd) x g (ix2 r j)
      = residual (rowOf x r) (down (rowOf u r) (matOf wd)) (rowOf g 0) j := by
  unfold residual normed invRms down
  pointwise [k0_pay12, k0_pay10]

/-- The fourth group's store. -/
theorem out_fourth (j : Fin 1024) :
    k0_pay1 (F := Ideal) x (k0_pay13 (F := Ideal) u wd g) (ix2 r j)
      = residual (rowOf x r) (down (rowOf u r) (matOf wd)) (rowOf g 0) j := by
  unfold residual normed invRms down
  pointwise [k0_pay1, k0_pay13]

/-- The first group's store from its loads: the layer, row by row. -/
theorem group_first (g2 : Vec Ideal S1x1024 .f32) (j : Fin 1024) :
    k0_pay5 (F := Ideal) (k0_pay2 (F := Ideal) x g wg wu) wd x g2 (ix2 r j)
      = layer (rowOf x r) (rowOf g 0) (rowOf g2 0) (matOf wg) (matOf wu) (matOf wd) j := by
  rw [out_first]
  unfold layer
  congr 2
  funext f
  exact hidden_first x g wg wu r f

/-- The second group's store from its loads: the layer, row by row. -/
theorem group_second (g2 : Vec Ideal S1x1024 .f32) (j : Fin 1024) :
    k0_pay9 (F := Ideal) (k0_pay6 (F := Ideal) (k0_pay4 (F := Ideal) g (k0_pay3 (F := Ideal) x) wg wu) wd) x g2
        (k0_pay8 (F := Ideal) (k0_pay4 (F := Ideal) g (k0_pay3 (F := Ideal) x) wg wu) wd) (ix2 r j)
      = layer (rowOf x r) (rowOf g 0) (rowOf g2 0) (matOf wg) (matOf wu) (matOf wd) j := by
  rw [out_second]
  unfold layer
  congr 2
  funext f
  exact hidden_second x g wg wu r f

/-- The third group's store from its loads: the layer, row by row. -/
theorem group_third (g2 : Vec Ideal S1x1024 .f32) (j : Fin 1024) :
    k0_pay12 (F := Ideal) (k0_pay10 (F := Ideal) (k0_pay7 (F := Ideal) x g wg wu) wd) x g2 (ix2 r j)
      = layer (rowOf x r) (rowOf g 0) (rowOf g2 0) (matOf wg) (matOf wu) (matOf wd) j := by
  rw [out_third]
  unfold layer
  congr 2
  funext f
  exact hidden_third x g wg wu r f

/-- The fourth group's store from its loads: the layer, row by row. -/
theorem group_fourth (g2 : Vec Ideal S1x1024 .f32) (j : Fin 1024) :
    k0_pay1 (F := Ideal) x (k0_pay13 (F := Ideal) (k0_pay11 (F := Ideal) x g wg wu) wd g2) (ix2 r j)
      = layer (rowOf x r) (rowOf g 0) (rowOf g2 0) (matOf wg) (matOf wu) (matOf wd) j := by
  rw [out_fourth]
  unfold layer
  congr 2
  funext f
  exact hidden_fourth x g wg wu r f

end

end Cert.FfnMath

end
-- ==== Proof.Ffn.Array.lean ====
/- The array the feed-forward kernel leaves: the row function of `Ffn.Row` on every token. -/
module

public import proofs.«01_k».proof.Proof.Ffn.Pieces
public import proofs.«01_k».proof.Proof.Gen.FfnIdeal.Value
public import Idealize.ShloMosaic.Lib.Pipeline.ValueKit

@[expose] public section

set_option maxRecDepth 16384

noncomputable section

namespace Cert.FfnMath

open Idealize.ShloMosaic Cert.FfnIdeal Cert.FfnIdeal.Gen

/-- Where the windows of a grid point lie: the token blocks in order, every weight whole. -/
theorem window_at : ∀ t : Fin grid0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0] ∧ win0_6.index t = ![t.val, 0] := by
  decide +kernel

/-- What the first group loads of the token block. -/
theorem load_first (X : Vec Ideal S1024x1024 .f32) (r : Fin 256) (k : Fin 1024) :
    rowOf (View.ld X r0_0) r k = X (ix2 ⟨0 + r.val, by omega⟩ k) := by
  show View.ld X r0_0 (ix2 r k) = _
  pointwise
  blk_ext []

/-- What the second group loads of the token block. -/
theorem load_second (X : Vec Ideal S1024x1024 .f32) (r : Fin 256) (k : Fin 1024) :
    rowOf (View.ld X r0_3) r k = X (ix2 ⟨256 + r.val, by omega⟩ k) := by
  show View.ld X r0_3 (ix2 r k) = _
  pointwise
  blk_ext []

/-- What the third group loads of the token block. -/
theorem load_third (X : Vec Ideal S1024x1024 .f32) (r : Fin 256) (k : Fin 1024) :
    rowOf (View.ld X r0_5) r k = X (ix2 ⟨512 + r.val, by omega⟩ k) := by
  show View.ld X r0_5 (ix2 r k) = _
  pointwise
  blk_ext []

/-- What the fourth group loads of the token block. -/
theorem load_fourth (X : Vec Ideal S1024x1024 .f32) (r : Fin 256) (k : Fin 1024) :
    rowOf (View.ld X r0_6) r k = X (ix2 ⟨768 + r.val, by omega⟩ k) := by
  show View.ld X r0_6 (ix2 r k) = _
  pointwise
  blk_ext []

section
variable (m : (ℓ : Loc nD τ sig) → Buf (Elt Ideal) ℓ) (c : Dev nD)

set_option maxHeartbeats 1000000 in
/-- The kernel's result array is the layer on every token of its arguments. -/
theorem array_tokens :
    (dats (F := Ideal) m 0 c).arrAt 6 (cfgs 0).N
      = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine (dats m 0 c).arrAt_eq_of_covers 6 _ (by decide +kernel) fun t hf y => ?_
  obtain ⟨w0, w1, w2, w3, w4, w5, w6⟩ := window_at t
  blk_simp
  rw [after0_6]
  unfold_out out0_6
  have hpre : ∀ k, View.ld (iblk m c 1 t) r0_1 (ix2 0 k) = m ((c.tc : Thread nD τ).loc main_arg1) (ix2 0 k) := by
    intro k
    pointwise
    blk_ext [iblk, V, window_at t]
  have hpost : ∀ k, View.ld (iblk m c 2 t) r0_1 (ix2 0 k) = m ((c.tc : Thread nD τ).loc main_arg2) (ix2 0 k) := by
    intro k
    pointwise
    blk_ext [iblk, V, window_at t]
  have hwg : ∀ a b, View.ld (iblk m c 3 t) r0_2 (ix3 0 a b) = m ((c.tc : Thread nD τ).loc main_arg3) (ix3 0 a b) := by
    intro a b
    pointwise
    blk_ext [iblk, V, window_at t]
  have hwu : ∀ a b, View.ld (iblk m c 4 t) r0_2 (ix3 0 a b) = m ((c.tc : Thread nD τ).loc main_arg4) (ix3 0 a b) := by
    intro a b
    pointwise
    blk_ext [iblk, V, window_at t]
  have hwd : ∀ a b, View.ld (iblk m c 5 t) r0_4 (ix3 0 a b) = m ((c.tc : Thread nD τ).loc main_arg5) (ix3 0 a b) := by
    intro a b
    pointwise
    blk_ext [iblk, V, window_at t]
  have ht : t.val < 32 := t.isLt
  have y0 : (y 0).val < 1024 := (y 0).isLt
  have hi : (win0_6.blk t).view.emb y = ix2 (n0 := 32768) (n1 := 1024) ⟨t.val * 1024 + (y 0).val, by omega⟩ (y 1) := by
    blk_ext [window_at t]
  rw [hi]
  have hrow : ∀ (a : Fin 1024) (k : Fin 1024), iblk m c 0 t (ix2 a k)
      = m ((c.tc : Thread nD τ).loc main_arg0) (ix2 (n0 := 32768) ⟨t.val * 1024 + a.val, by omega⟩ k) := by
    intro a k
    blk_ext [iblk, V, window_at t]
  canon_tiles x h
  all_goals
    obtain ⟨r, j, rfl⟩ : ∃ (r : Fin 256) (j : Fin 1024), x = ix2 r j := ⟨x 0, x 1, eq_ix2 x⟩
    simp only [ix2_0, ix2_1] at h0 h1
    first
      | rw [group_first]
      | rw [group_second]
      | rw [group_third]
      | rw [group_fourth]
    refine layer_eq_tokens ?_ (fun k => ?_) hpre hpost hwg hwu hwd
    · exact Fin.ext h1.symm
    · first
        | rw [load_first]
        | rw [load_second]
        | rw [load_third]
        | rw [load_fourth]
      rw [hrow]
      refine congrArg (fun a => m ((c.tc : Thread nD τ).loc main_arg0) (ix2 (n0 := 32768) a k)) (Fin.ext ?_)
      show t.val * 1024 + (_ + r.val) = t.val * 1024 + (y 0).val
      omega

end

end Cert.FfnMath

end
-- ==== Proof.Ffn.Claims.lean ====
/- The feed-forward call's claims: its frames, and that kernel and reference compute one function over the extended reals. -/
module

public import proofs.«01_k».proof.Defs
public import proofs.«01_k».proof.Proof.Ffn.Ref
public import proofs.«01_k».proof.Proof.Ffn.Array
public import proofs.«01_k».proof.Proof.Gen.Ffn.Frame

@[expose] public section

noncomputable section

namespace Cert.FfnClaims

open Idealize.ShloMosaic Idealize.SL.Sem

/-- The reference runs and leaves its arguments; it has no semaphores. -/
theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The kernel's array and the reference's result are the layer on every token (`FfnMath.tokens`) of arguments that agree. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  obtain ⟨a0, a1, a2, a3, a4, a5⟩ := hagree c
  refine (Cert.FfnMath.ref_tokens m' c).trans (Eq.trans ?_ (Cert.FfnMath.array_tokens m c).symm)
  rw [a0, a1, a2, a3, a4, a5]

end Cert.FfnClaims

end
-- ==== Proof.Ffa.Row.lean ====
/- One token's feed-forward layer after the attention's projection: the residual that the projection makes of the
   activations, and the layer of `Ffn.Row` on it. Both programs are read against it. -/
module

public import proofs.«01_k».proof.Proof.Ffn.Row

@[expose] public section

noncomputable section

namespace Cert.FfaMath

open Idealize.ShloMosaic Cert.FfnMath

/-- A row of activations plus the normalised projection of the attention's row. -/
def mixed (x a : Fin 1024 → EReal) (wo : Fin 1024 → Fin 1024 → EReal) (g : Fin 1024 → EReal) (j : Fin 1024) : EReal :=
  x j + normed (fun i => ∑ k : Fin 1024, a k * wo k i) g j

/-- Matrix `s` of a stack. -/
abbrev slabOf {n a b : ℕ} (s : Fin n) (x : (⟨3, ![n, a, b]⟩ : Shape).Idx → EReal) : Fin a → Fin b → EReal := fun i j => x (ix3 s i j)

/-- The layer on every token: of the stacks of weights it uses the second feed-forward's, and of the projections the first. -/
def tokens (h : (⟨2, ![32768, 1024]⟩ : Shape).Idx → EReal) (gpre gpost : (⟨2, ![1, 1024]⟩ : Shape).Idx → EReal)
    (wg wu : (⟨3, ![4, 1024, 2816]⟩ : Shape).Idx → EReal) (wd : (⟨3, ![4, 2816, 1024]⟩ : Shape).Idx → EReal)
    (ao : (⟨2, ![32768, 1024]⟩ : Shape).Idx → EReal) (wo : (⟨3, ![2, 1024, 1024]⟩ : Shape).Idx → EReal)
    (gmix : (⟨2, ![1, 1024]⟩ : Shape).Idx → EReal) : (⟨2, ![32768, 1024]⟩ : Shape).Idx → EReal := fun i =>
  layer (mixed (rowOf h (i 0)) (rowOf ao (i 0)) (slabOf 0 wo) (rowOf gmix 0)) (rowOf gpre 0) (rowOf gpost 0)
    (slabOf 1 wg) (slabOf 1 wu) (slabOf 1 wd) (i 1)

/-- Where the rows of a block and the weights staged beside them are a token's rows and the arguments, the layer is the token's. -/
theorem layer_eq_tokens {x a gpre gpost gmix : Fin 1024 → EReal} {wg wu : Fin 1024 → Fin 2816 → EReal} {wd : Fin 2816 → Fin 1024 → EReal}
    {wo : Fin 1024 → Fin 1024 → EReal}
    {h : (⟨2, ![32768, 1024]⟩ : Shape).Idx → EReal} {gpre' gpost' : (⟨2, ![1, 1024]⟩ : Shape).Idx → EReal}
    {wg' wu' : (⟨3, ![4, 1024, 2816]⟩ : Shape).Idx → EReal} {wd' : (⟨3, ![4, 2816, 1024]⟩ : Shape).Idx → EReal}
    {ao : (⟨2, ![32768, 1024]⟩ : Shape).Idx → EReal} {wo' : (⟨3, ![2, 1024, 1024]⟩ : Shape).Idx → EReal}
    {gmix' : (⟨2, ![1, 1024]⟩ : Shape).Idx → EReal}
    {i : (⟨2, ![32768, 1024]⟩ : Shape).Idx} {j : Fin 1024} (hj : j = i 1) (hx : ∀ k, x k = h (ix2 (i 0) k)) (ha : ∀ k, a k = ao (ix2 (i 0) k))
    (hpre : ∀ k, gpre k = gpre' (ix2 0 k)) (hpost : ∀ k, gpost k = gpost' (ix2 0 k)) (hmix : ∀ k, gmix k = gmix' (ix2 0 k))
    (hwg : ∀ a b, wg a b = wg' (ix3 1 a b)) (hwu : ∀ a b, wu a b = wu' (ix3 1 a b)) (hwd : ∀ a b, wd a b = wd' (ix3 1 a b))
    (hwo : ∀ a b, wo a b = wo' (ix3 0 a b)) :
    layer (mixed x a wo gmix) gpre gpost wg wu wd j = tokens h gpre' gpost' wg' wu' wd' ao wo' gmix' i := by
  obtain rfl : x = rowOf h (i 0) := funext hx
  obtain rfl : a = rowOf ao (i 0) := funext ha
  obtain rfl : gpre = rowOf gpre' 0 := funext hpre
  obtain rfl : gpost = rowOf gpost' 0 := funext hpost
  obtain rfl : gmix = rowOf gmix' 0 := funext hmix
  obtain rfl : wg = slabOf 1 wg' := funext fun a => funext (hwg a)
  obtain rfl : wu = slabOf 1 wu' := funext fun a => funext (hwu a)
  obtain rfl : wd = slabOf 1 wd' := funext fun a => funext (hwd a)
  obtain rfl : wo = slabOf 0 wo' := funext fun a => funext (hwo a)
  subst hj
  rfl

end Cert.FfaMath

end
-- ==== Proof.Ffa.Ref.lean ====
/- What the reference leaves of the feed-forward layer after the attention's projection: the row function of `Ffa.Row` on
   every token. -/
module

public import proofs.«01_k».proof.Proof.Ffa.Row
public import proofs.«01_k».proof.Proof.Gen.FfaRefIdeal.Run
public import Idealize.ShloMosaic.Lib.Tactic.CleanTypes

@[expose] public section

set_option maxRecDepth 16384

noncomputable section

namespace Cert.FfaMath

open Idealize.ShloMosaic Cert.FfaRefIdeal Cert.FfnMath

/-- The reference's result is the layer on every token of its arguments. -/
theorem ref_tokens (m : (ℓ : Loc nD τ sig) → Buf (Elt Ideal) ℓ) (c : Dev nD) :
    Value.res_out0 (F := Ideal) m c = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  have at_point : ∀ (t : Fin 32768) (j : Fin 1024), Value.res_out0 (F := Ideal) m c (ix2 t j)
      = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (ix2 t j) := by
    intro t j
    unfold Value.res_out0 Value.res_main_v60 tokens layer FfnMath.residual down FfnMath.hidden mixed normed invRms
    clean_types
    pointwise
  funext i
  have hi : i = ix2 (n0 := 32768) (n1 := 1024) (i 0) (i 1) := eq_ix2 i
  rw [hi]
  exact at_point _ _

end Cert.FfaMath

end
-- ==== Proof.Ffa.Pieces.lean ====
/- What the four row groups of one block compute after the attention's projection: each is the row function of
   `Ffa.Row`, although the printed program splits their operations differently. A group first stores the residual
   that the projection makes, and reads it back for the layer's own residual. -/
module

public import proofs.«01_k».proof.Proof.Ffa.Row
public import proofs.«01_k».proof.Proof.Gen.FfaIdeal.Skeleton

@[expose] public section

set_option maxRecDepth 16384

noncomputable section

namespace Cert.FfaMath

open Idealize.ShloMosaic Cert.FfaIdeal Cert.FfaIdeal.Gen Cert.FfnMath

section
variable (x y : Vec Ideal S256x1024 .f32) (a : Vec Ideal S256x1024 .bf16) (wo : Vec Ideal S1x1024x1024 .bf16) (gm g : Vec Ideal S1x1024 .f32)
  (n : FVec Ideal S256x1024 .bf16) (wg wu : Vec Ideal S1x1024x2816 .bf16) (u : FVec Ideal S256x2816 .bf16)
  (wd : Vec Ideal S1x2816x1024 .bf16) (r : Fin 256)

/-- The residual of the projection as the first group stores it. -/
theorem mixed_first (j : Fin 1024) :
    k0_pay2 (F := Ideal) x a wo gm (ix2 r j) = mixed (rowOf x r) (rowOf a r) (matOf wo) (rowOf gm 0) j := by
  unfold mixed normed invRms
  pointwise [k0_pay2]

/-- The residual of the projection as the second group stores it. -/
theorem mixed_second (j : Fin 1024) :
    k0_pay5 (F := Ideal) x a wo gm (ix2 r j) = mixed (rowOf x r) (rowOf a r) (matOf wo) (rowOf gm 0) j := by
  unfold mixed normed invRms
  pointwise [k0_pay5]

/-- The residual of the projection as the third group stores it. -/
theorem mixed_third (j : Fin 1024) :
    k0_pay9 (F := Ideal) x a wo gm (ix2 r j) = mixed (rowOf x r) (rowOf a r) (matOf wo) (rowOf gm 0) j := by
  unfold mixed normed invRms
  pointwise [k0_pay9]

/-- The residual of the projection as the fourth group stores it. -/
theorem mixed_fourth (j : Fin 1024) :
    k0_pay13 (F := Ideal) x a wo gm (ix2 r j) = mixed (rowOf x r) (rowOf a r) (matOf wo) (rowOf gm 0) j := by
  unfold mixed normed invRms
  pointwise [k0_pay13]

/-- The normalised residual of the first group. -/
theorem normed_first (j : Fin 1024) :
    k0_pay3 (F := Ideal) x a wo gm g (ix2 r j) = normed (mixed (rowOf x r) (rowOf a r) (matOf wo) (rowOf gm 0)) (rowOf g 0) j := by
  have e : rowOf (k0_pay2 (F := Ideal) x a wo gm) r = mixed (rowOf x r) (rowOf a r) (matOf wo) (rowOf gm 0) := funext (mixed_first x a wo gm r)
  rw [← e]
  unfold k0_pay3
  generalize k0_pay2 (F := Ideal) x a wo gm = D
  unfold normed invRms
  pointwise

/-- The normalised residual of the third group. -/
theorem normed_third (j : Fin 1024) :
    k0_pay10 (F := Ideal) x a wo gm g (ix2 r j) = normed (mixed (rowOf x r) (rowOf a r) (matOf wo) (rowOf gm 0)) (rowOf g 0) j := by
  have e : rowOf (k0_pay9 (F := Ideal) x a wo gm) r = mixed (rowOf x r) (rowOf a r) (matOf wo) (rowOf gm 0) := funext (mixed_third x a wo gm r)
  rw [← e]
  unfold k0_pay10
  generalize k0_pay9 (F := Ideal) x a wo gm = D
  unfold normed invRms
  pointwise

/-- The normalised residual of the fourth group. -/
theorem normed_fourth (j : Fin 1024) :
    k0_pay14 (F := Ideal) x a wo gm g (ix2 r j) = normed (mixed (rowOf x r) (rowOf a r) (matOf wo) (rowOf gm 0)) (rowOf g 0) j := by
  have e : rowOf (k0_pay13 (F := Ideal) x a wo gm) r = mixed (rowOf x r) (rowOf a r) (matOf wo) (rowOf gm 0) := funext (mixed_fourth x a wo gm r)
  rw [← e]
  unfold k0_pay14
  generalize k0_pay13 (F := Ideal) x a wo gm = D
  unfold normed invRms
  pointwise

/-- The hidden layer of the first group, from its normalised rows. -/
theorem hidden_first (f : Fin 2816) : k0_pay4 (F := Ideal) n wg wu (ix2 r f) = hidden (rowOf n r) (matOf wg) (matOf wu) f := by
  unfold FfnMath.hidden
  pointwise [k0_pay4]
  rfl

/-- The hidden layer of the third group. -/
theorem hidden_third (f : Fin 2816) : k0_pay11 (F := Ideal) n wg wu (ix2 r f) = hidden (rowOf n r) (matOf wg) (matOf wu) f := by
  unfold FfnMath.hidden
  pointwise [k0_pay11]
  rfl

/-- The hidden layer of the second group, which normalises its rows there. -/
theorem hidden_second (f : Fin 2816) :
    k0_pay7 (F := Ideal) (k0_pay5 (F := Ideal) x a wo gm) g (k0_pay6 (F := Ideal) x a wo gm) wg wu (ix2 r f)
      = hidden (normed (mixed (rowOf x r) (rowOf a r) (matOf wo) (rowOf gm 0)) (rowOf g 0)) (matOf wg) (matOf wu) f := by
  have e : rowOf (k0_pay5 (F := Ideal) x a wo gm) r = mixed (rowOf x r) (rowOf a r) (matOf wo) (rowOf gm 0) := funext (mixed_second x a wo gm r)
  rw [← e]
  unfold k0_pay6
  generalize k0_pay5 (F := Ideal) x a wo gm = D
  unfold FfnMath.hidden normed invRms
  pointwise [k0_pay7]
  rfl

/-- The first group's result, from its hidden layer and the residual that it reads back. -/
theorem out_first (j : Fin 1024) :
    k0_pay8 (F := Ideal) u wd y g (ix2 r j) = residual (rowOf y r) (down (rowOf u r) (matOf wd)) (rowOf g 0) j := by
  unfold FfnMath.residual normed invRms down
  pointwise [k0_pay8]

/-- The second group's result. -/
theorem out_second (j : Fin 1024) :
    k0_pay12 (F := Ideal) u wd y g (ix2 r j) = residual (rowOf y r) (down (rowOf u r) (matOf wd)) (rowOf g 0) j := by
  unfold FfnMath.residual normed invRms down
  pointwise [k0_pay12]

/-- The third group's result. -/
theorem out_third (j : Fin 1024) :
    k0_pay16 (F := Ideal) (k0_pay15 (F := Ideal) u wd) y g (ix2 r j) = residual (rowOf y r) (down (rowOf u r) (matOf wd)) (rowOf g 0) j := by
  unfold FfnMath.residual normed invRms down
  pointwise [k0_pay16, k0_pay15]

/-- The fourth group's projection back, its hidden layer within. -/
theorem down_fourth (j : Fin 1024) :
    k0_pay17 (F := Ideal) n wg wu wd (ix2 r j) = down (hidden (rowOf n r) (matOf wg) (matOf wu)) (matOf wd) j := by
  unfold FfnMath.hidden down
  pointwise [k0_pay17]
  rfl

/-- The fourth group's result, from its normalised rows. -/
theorem out_fourth (j : Fin 1024) :
    k0_pay1 (F := Ideal) (k0_pay17 (F := Ideal) n wg wu wd) (k0_pay18 (F := Ideal) y) g (k0_pay19 (F := Ideal) n wg wu wd) (ix2 r j)
      = residual (rowOf y r) (down (hidden (rowOf n r) (matOf wg) (matOf wu)) (matOf wd)) (rowOf g 0) j := by
  have e : rowOf (k0_pay17 (F := Ideal) n wg wu wd) r = down (hidden (rowOf n r) (matOf wg) (matOf wu)) (matOf wd) := funext (down_fourth n wg wu wd r)
  rw [← e]
  unfold k0_pay19
  generalize k0_pay17 (F := Ideal) n wg wu wd = D
  unfold FfnMath.residual normed invRms
  pointwise [k0_pay1, k0_pay18]

/-- The first group from its loads: the layer, row by row. -/
theorem group_first (g2 : Vec Ideal S1x1024 .f32) (j : Fin 1024) :
    k0_pay8 (F := Ideal) (k0_pay4 (F := Ideal) (k0_pay3 (F := Ideal) x a wo gm g) wg wu) wd (k0_pay2 (F := Ideal) x a wo gm) g2 (ix2 r j)
      = layer (mixed (rowOf x r) (rowOf a r) (matOf wo) (rowOf gm 0)) (rowOf g 0) (rowOf g2 0) (matOf wg) (matOf wu) (matOf wd) j := by
  rw [out_first, show rowOf (k0_pay2 (F := Ideal) x a wo gm) r = _ from funext (mixed_first x a wo gm r),
    show rowOf (k0_pay4 (F := Ideal) (k0_pay3 (F := Ideal) x a wo gm g) wg wu) r = _ from funext (hidden_first _ wg wu r),
    show rowOf (k0_pay3 (F := Ideal) x a wo gm g) r = _ from funext (normed_first x a wo gm g r)]
  rfl

/-- The second group from its loads. -/
theorem group_second (g2 : Vec Ideal S1x1024 .f32) (j : Fin 1024) :
    k0_pay12 (F := Ideal) (k0_pay7 (F := Ideal) (k0_pay5 (F := Ideal) x a wo gm) g (k0_pay6 (F := Ideal) x a wo gm) wg wu) wd
        (k0_pay5 (F := Ideal) x a wo gm) g2 (ix2 r j)
      = layer (mixed (rowOf x r) (rowOf a r) (matOf wo) (rowOf gm 0)) (rowOf g 0) (rowOf g2 0) (matOf wg) (matOf wu) (matOf wd) j := by
  rw [out_second, show rowOf (k0_pay5 (F := Ideal) x a wo gm) r = _ from funext (mixed_second x a wo gm r),
    show rowOf (k0_pay7 (F := Ideal) (k0_pay5 (F := Ideal) x a wo gm) g (k0_pay6 (F := Ideal) x a wo gm) wg wu) r = _
      from funext (hidden_second x a wo gm g wg wu r)]
  rfl

/-- The third group from its loads. -/
theorem group_third (g2 : Vec Ideal S1x1024 .f32) (j : Fin 1024) :
    k0_pay16 (F := Ideal) (k0_pay15 (F := Ideal) (k0_pay11 (F := Ideal) (k0_pay10 (F := Ideal) x a wo gm g) wg wu) wd)
        (k0_pay9 (F := Ideal) x a wo gm) g2 (ix2 r j)
      = layer (mixed (rowOf x r) (rowOf a r) (matOf wo) (rowOf gm 0)) (rowOf g 0) (rowOf g2 0) (matOf wg) (matOf wu) (matOf wd) j := by
  rw [out_third, show rowOf (k0_pay9 (F := Ideal) x a wo gm) r = _ from funext (mixed_third x a wo gm r),
    show rowOf (k0_pay11 (F := Ideal) (k0_pay10 (F := Ideal) x a wo gm g) wg wu) r = _ from funext (hidden_third _ wg wu r),
    show rowOf (k0_pay10 (F := Ideal) x a wo gm g) r = _ from funext (normed_third x a wo gm g r)]
  rfl

/-- The fourth group from its loads. -/
theorem group_fourth (g2 : Vec Ideal S1x1024 .f32) (j : Fin 1024) :
    k0_pay1 (F := Ideal) (k0_pay17 (F := Ideal) (k0_pay14 (F := Ideal) x a wo gm g) wg wu wd) (k0_pay18 (F := Ideal) (k0_pay13 (F := Ideal) x a wo gm)) g2
        (k0_pay19 (F := Ideal) (k0_pay14 (F := Ideal) x a wo gm g) wg wu wd) (ix2 r j)
      = layer (mixed (rowOf x r) (rowOf a r) (matOf wo) (rowOf gm 0)) (rowOf g 0) (rowOf g2 0) (matOf wg) (matOf wu) (matOf wd) j := by
  rw [out_fourth, show rowOf (k0_pay13 (F := Ideal) x a wo gm) r = _ from funext (mixed_fourth x a wo gm r),
    show rowOf (k0_pay14 (F := Ideal) x a wo gm g) r = _ from funext (normed_fourth x a wo gm g r)]
  rfl

end

end Cert.FfaMath

end
-- ==== Proof.Ffa.Array.lean ====
/- The array the feed-forward kernel leaves after the attention's projection: the row function of `Ffa.Row` on every token. -/
module

public import proofs.«01_k».proof.Proof.Ffa.Pieces
public import proofs.«01_k».proof.Proof.Gen.FfaIdeal.Value
public import Idealize.ShloMosaic.Lib.Pipeline.ValueKit
public import Idealize.ShloMosaic.Lib.Pipeline.ReadBack

@[expose] public section

set_option maxRecDepth 16384

noncomputable section

namespace Cert.FfaMath

open Idealize.ShloMosaic Cert.FfaIdeal Cert.FfaIdeal.Gen Cert.FfnMath

/-- Where the windows of a grid point lie: the token blocks in order, every weight whole, of a stack the matrix that is used. -/
theorem window_at : ∀ t : Fin grid0.N, win0_0.index t = ![t.val, 0] ∧ win0_1.index t = ![0, 0] ∧ win0_2.index t = ![0, 0]
    ∧ win0_3.index t = ![1, 0, 0] ∧ win0_4.index t = ![1, 0, 0] ∧ win0_5.index t = ![1, 0, 0] ∧ win0_6.index t = ![t.val, 0]
    ∧ win0_7.index t = ![0, 0, 0] ∧ win0_8.index t = ![0, 0] ∧ win0_9.index t = ![t.val, 0] := by
  decide +kernel

/-- What a group loads of a block of tokens, from row `o` on. -/
theorem load_rows {e : EltTy} (X : Vec Ideal S1024x1024 e) (o : ℕ) (inb : ∀ a, (![o, 0] : Fin 2 → ℕ) a + (![256, 1024] : Fin 2 → ℕ) a ≤ S1024x1024.size a)
    (r : Fin 256) (k : Fin 1024) (h : o + r.val < 1024) :
    View.ld X (Rect.unit (s := S1024x1024) ![o, 0] ![256, 1024] inb) (ix2 r k) = X (ix2 ⟨o + r.val, h⟩ k) := by
  refine congrArg X ?_
  funext a
  match a with
  | ⟨0, _⟩ => exact Fin.ext (by show o + 1 * r.val = o + r.val; omega)
  | ⟨1, _⟩ => exact Fin.ext (by show 0 + 1 * k.val = k.val; omega)

/-- A store at a rectangle to which a later store was made leaves nothing. -/
theorem canon_again {s : Shape} {e : EltTy} (R : Rect s) (w w' : R.shape.Idx → Elt Ideal e) (L' : List (View.Piece (Elt Ideal) s e)) :
    ∀ L : List (View.Piece (Elt Ideal) s e), (⟨R, w⟩ : View.Piece (Elt Ideal) s e) ∈ L → View.canon (L ++ ⟨R, w'⟩ :: L') = View.canon (L ++ L')
  | [], h => absurd h List.not_mem_nil
  | p :: L, h => by
    funext y
    by_cases hy : y ∈ p.1.set
    · obtain ⟨r, v⟩ := p
      obtain ⟨x, rfl⟩ : ∃ x, r.emb x = y := r.exists_idx_of_mem hy
      rw [List.cons_append, List.cons_append, View.canon_cons_emb, View.canon_cons_emb]
    · rw [List.cons_append, List.cons_append, View.canon_cons_of_not_mem p _ hy, View.canon_cons_of_not_mem p _ hy]
      rcases List.mem_cons.mp h with rfl | h
      · clear h
        induction L with
        | nil => exact View.canon_cons_of_not_mem _ _ hy
        | cons q L ih =>
          by_cases hq : y ∈ q.1.set
          · obtain ⟨r, v⟩ := q
            obtain ⟨x, rfl⟩ : ∃ x, r.emb x = y := r.exists_idx_of_mem hq
            rw [List.cons_append, List.cons_append, View.canon_cons_emb, View.canon_cons_emb]
          · rw [List.cons_append, List.cons_append, View.canon_cons_of_not_mem q _ hq, View.canon_cons_of_not_mem q _ hq]
            exact ih
      · exact congrFun (canon_again R w w' L' L h) y

/-- Of the eight stores of a block, in the order in which the kernel makes them, the later one at each row group is left. -/
theorem canon_latest {s : Shape} {e : EltTy} (A B C D : Rect s) (a a' : A.shape.Idx → Elt Ideal e) (b b' : B.shape.Idx → Elt Ideal e)
    (c c' : C.shape.Idx → Elt Ideal e) (d d' : D.shape.Idx → Elt Ideal e) :
    View.canon (Val := Elt Ideal) [⟨D, d⟩, ⟨C, c⟩, ⟨D, d'⟩, ⟨B, b⟩, ⟨C, c'⟩, ⟨A, a⟩, ⟨B, b'⟩, ⟨A, a'⟩]
      = View.canon (Val := Elt Ideal) [⟨D, d⟩, ⟨C, c⟩, ⟨B, b⟩, ⟨A, a⟩] :=
  ((canon_again D d d' _ [⟨D, d⟩, ⟨C, c⟩] (by simp)).trans
    (canon_again C c c' _ [⟨D, d⟩, ⟨C, c⟩, ⟨B, b⟩] (by simp))).trans
      ((canon_again B b b' _ [⟨D, d⟩, ⟨C, c⟩, ⟨B, b⟩, ⟨A, a⟩] (by simp)).trans
        (canon_again A a a' [] [⟨D, d⟩, ⟨C, c⟩, ⟨B, b⟩, ⟨A, a⟩] (by simp)))

section
variable (m : (ℓ : Loc nD τ sig) → Buf (Elt Ideal) ℓ) (c : Dev nD)

set_option maxHeartbeats 1000000 in
/-- The kernel's result array is the layer on every token of its arguments. -/
theorem array_tokens :
    (dats (F := Ideal) m 0 c).arrAt 9 cfg0.N
      = tokens (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  refine (dats m 0 c).arrAt_eq_of_covers 9 _ (by decide +kernel) fun t hf y => ?_
  obtain ⟨w0, w1, w2, w3, w4, w5, w6, w7, w8, w9⟩ := window_at t
  blk_simp
  rw [after0_9]
  unfold outsAt0
  frame_open
  simp (disch := decide) only [↓ View.readCov_skip, ↓ View.readCov_cons_toLoadRect, ↓ View.readCov_fill]
  frame_out
  have hpre : ∀ k, iblk m c 1 t (ix2 0 k) = m ((c.tc : Thread nD τ).loc main_arg1) (ix2 0 k) := by
    intro k
    blk_ext [iblk, V, window_at t]
  have hpost : ∀ k, iblk m c 2 t (ix2 0 k) = m ((c.tc : Thread nD τ).loc main_arg2) (ix2 0 k) := by
    intro k
    blk_ext [iblk, V, window_at t]
  have hwg : ∀ a b, iblk m c 3 t (ix3 0 a b) = m ((c.tc : Thread nD τ).loc main_arg3) (ix3 1 a b) := by
    intro a b
    blk_ext [iblk, V, window_at t]
  have hwu : ∀ a b, iblk m c 4 t (ix3 0 a b) = m ((c.tc : Thread nD τ).loc main_arg4) (ix3 1 a b) := by
    intro a b
    blk_ext [iblk, V, window_at t]
  have hwd : ∀ a b, iblk m c 5 t (ix3 0 a b) = m ((c.tc : Thread nD τ).loc main_arg5) (ix3 1 a b) := by
    intro a b
    blk_ext [iblk, V, window_at t]
  have hwo : ∀ a b, iblk m c 7 t (ix3 0 a b) = m ((c.tc : Thread nD τ).loc main_arg7) (ix3 0 a b) := by
    intro a b
    blk_ext [iblk, V, window_at t]
  have hmix : ∀ k, iblk m c 8 t (ix2 0 k) = m ((c.tc : Thread nD τ).loc main_arg8) (ix2 0 k) := by
    intro k
    blk_ext [iblk, V, window_at t]
  have ht : t.val < 32 := t.isLt
  have y0 : (y 0).val < 1024 := (y 0).isLt
  have hi : (win0_9.blk t).view.emb y = ix2 (n0 := 32768) (n1 := 1024) ⟨t.val * 1024 + (y 0).val, by omega⟩ (y 1) := by
    blk_ext [window_at t]
  rw [hi]
  have hrow : ∀ (a : Fin 1024) (k : Fin 1024), iblk m c 0 t (ix2 a k)
      = m ((c.tc : Thread nD τ).loc main_arg0) (ix2 (n0 := 32768) ⟨t.val * 1024 + a.val, by omega⟩ k) := by
    intro a k
    blk_ext [iblk, V, window_at t]
  have hatt : ∀ (a : Fin 1024) (k : Fin 1024), iblk m c 6 t (ix2 a k)
      = m ((c.tc : Thread nD τ).loc main_arg6) (ix2 (n0 := 32768) ⟨t.val * 1024 + a.val, by omega⟩ k) := by
    intro a k
    blk_ext [iblk, V, window_at t]
  refine (congrFun (canon_latest _ _ _ _ _ _ _ _ _ _ _ _) _).trans ?_
  canon_tiles x h
  all_goals
    obtain ⟨r, j, rfl⟩ : ∃ (r : Fin 256) (j : Fin 1024), x = ix2 r j := ⟨x 0, x 1, eq_ix2 x⟩
    simp only [ix2_0, ix2_1] at h0 h1
    first
      | rw [group_first]
      | rw [group_second]
      | rw [group_third]
      | rw [group_fourth]
    refine layer_eq_tokens ?_ (fun k => ?_) (fun k => ?_) hpre hpost hmix hwg hwu hwd hwo
    · exact Fin.ext h1.symm
    · refine (load_rows _ _ _ r k (by omega)).trans ((hrow _ k).trans ?_)
      refine congrArg (fun a => m ((c.tc : Thread nD τ).loc main_arg0) (ix2 (n0 := 32768) a k)) (Fin.ext ?_)
      show t.val * 1024 + (_ + r.val) = t.val * 1024 + (y 0).val
      omega
    · refine (load_rows _ _ _ r k (by omega)).trans ((hatt _ k).trans ?_)
      refine congrArg (fun a => m ((c.tc : Thread nD τ).loc main_arg6) (ix2 (n0 := 32768) a k)) (Fin.ext ?_)
      show t.val * 1024 + (_ + r.val) = t.val * 1024 + (y 0).val
      omega

end

end Cert.FfaMath

end
-- ==== Proof.Ffa.Claims.lean ====
/- The claims of the feed-forward call after the attention's projection: its reference's frame, and that kernel and
   reference compute one function over the extended reals. -/
module

public import proofs.«01_k».proof.Defs
public import proofs.«01_k».proof.Proof.Ffa.Ref
public import proofs.«01_k».proof.Proof.Ffa.Array
public import proofs.«01_k».proof.Proof.Gen.Ffa.Frame

@[expose] public section

noncomputable section

namespace Cert.FfaClaims

open Idealize.ShloMosaic Idealize.SL.Sem

/-- The reference runs and leaves its arguments; it has no semaphores. -/
theorem frame_ref : Cert.quiescent_FfaRefIdeal := fun m ρ _ =>
  (θ_run Cert.FfaRefIdeal.defs _ _).mono (fun r h => ⟨fun c => (h c).2, sem_eq_zero_of_no_sems (by decide) r.2⟩)
    (Cert.FfaRefIdeal.Value.run (F := Ideal) m ρ)

/-- The kernel's array and the reference's result are the layer on every token (`FfaMath.tokens`) of arguments that agree. -/
theorem algebraic : Cert.algebraic_FfaIdeal_FfaRefIdeal := by
  intro m ρ m' ρ' _ hagree
  refine ⟨_, Cert.FfaIdeal.Value.run_blocks (F := Ideal) m ρ, ?_⟩
  refine (θ_run Cert.FfaRefIdeal.defs _ _).mono (fun _ h c => ⟨(h c).1.trans ?_, (h c).2⟩)
    (Cert.FfaRefIdeal.Value.run (F := Ideal) m' ρ')
  obtain ⟨a0, a1, a2, a3, a4, a5, a6, a7, a8⟩ := hagree c
  refine (Cert.FfaMath.ref_tokens m' c).trans (Eq.trans ?_ (Cert.FfaMath.array_tokens m c).symm)
  rw [a0, a1, a2, a3, a4, a5, a6, a7, a8]

end Cert.FfaClaims

end
-- ==== Proof.Qkv.Row.lean ====
/- One token's queries, keys and values as functions of its row of activations: RMS normalisation, the projection, and the
   rotation of a head's first 32 coordinates by the token's position. Both programs are read against them. -/
module

public import proofs.«01_k».proof.Proof.Ffn.Row

@[expose] public section

noncomputable section

namespace Cert.QkvMath

open Idealize.ShloMosaic Cert.FfnMath

/-- The normalised row times the weights, at one of the 3072 columns. -/
def proj (x g : Fin 1024 → EReal) (w : Fin 1024 → Fin 3072 → EReal) (c : Fin 3072) : EReal :=
  ∑ k : Fin 1024, normed x g k * w k c

/-- The angle by which the token at position `s` turns the pair of coordinates `j`, from the literals as the programs print them. -/
def angle (s j : ℕ) : EReal :=
  FloatOps.sitofp (F := Ideal) .f32 (BitVec.ofNat 32 s) * Ideal.div 1 (Ideal.pow (Ideal.ofBits .f32 0x48F42400#32)
    (Ideal.div (Ideal.ofBits .f32 0x40000000#32 * FloatOps.sitofp (F := Ideal) .f32 (BitVec.ofNat 32 j)) (Ideal.ofBits .f32 0x42000000#32)))

/-- A head's coordinates after the rotation at position `s`: coordinates `j` and `16 + j` turn together, from 32 on they stay. -/
def turned (y : Fin 128 → EReal) (s : ℕ) (d : Fin 128) : EReal :=
  if h : d.val < 16 then y d * Ideal.cos (angle s d.val) - y ⟨16 + d.val, by omega⟩ * Ideal.sin (angle s d.val)
  else if h' : d.val - 16 < 16 then y d * Ideal.cos (angle s (d.val - 16)) + y ⟨d.val - 16, by omega⟩ * Ideal.sin (angle s (d.val - 16))
  else y d

/-- The rotation with each coordinate named by its place in its part: the first 16, the next 16, the others. -/
theorem turned_by_parts (y : Fin 128 → EReal) (s : ℕ) (d : Fin 128) : turned y s d
    = if h : d.val < 16 then y d * Ideal.cos (angle s d.val) - y ⟨16 + d.val, by omega⟩ * Ideal.sin (angle s d.val)
      else if h' : d.val - 16 < 16 then y ⟨16 + (d.val - 16), by omega⟩ * Ideal.cos (angle s (d.val - 16))
        + y ⟨d.val - 16, by omega⟩ * Ideal.sin (angle s (d.val - 16))
      else y ⟨32 + (d.val - 16 - 16), by omega⟩ := by
  unfold turned
  split
  · rfl
  · split
    · exact congrArg (fun z => y z * Ideal.cos (angle s (d.val - 16)) + y ⟨d.val - 16, by omega⟩ * Ideal.sin (angle s (d.val - 16)))
        (Fin.ext (by show d.val = 16 + (d.val - 16); omega))
    · exact congrArg y (Fin.ext (by show d.val = 32 + (d.val - 16 - 16); omega))

/-- The rotation as two rolls of the whole head, with tables that are zero where a roll brings a coordinate not wanted. -/
theorem rolls_eq_turned (y : Fin 128 → EReal) (s : ℕ) (d : Fin 128) (C L H : EReal)
    (hC : C = if d.val < 16 then Ideal.cos (angle s d.val) else if d.val - 16 < 16 then Ideal.cos (angle s (d.val - 16)) else 1)
    (hL : L = if d.val < 16 then -Ideal.sin (angle s d.val) else if d.val - 16 < 16 then 0 else 0)
    (hH : H = if d.val < 16 then 0 else if d.val - 16 < 16 then Ideal.sin (angle s (d.val - 16)) else 0) :
    y d * C + y ⟨(d.val + 128 - 112) % 128, Nat.mod_lt _ (by omega)⟩ * L + y ⟨(d.val + 128 - 16) % 128, Nat.mod_lt _ (by omega)⟩ * H
      = turned y s d := by
  unfold turned
  subst hC hL hH
  by_cases h : d.val < 16
  · rw [if_pos h, if_pos h, if_pos h, dif_pos h, mul_zero, add_zero, sub_eq_add_neg, mul_neg]
    exact congrArg (fun j => y d * Ideal.cos (angle s d.val) + -(y j * Ideal.sin (angle s d.val)))
      (Fin.ext (by show (d.val + 128 - 112) % 128 = 16 + d.val; omega))
  · rw [if_neg h, if_neg h, if_neg h, dif_neg h]
    by_cases h' : d.val - 16 < 16
    · rw [if_pos h', if_pos h', if_pos h', dif_pos h', mul_zero, add_zero]
      exact congrArg (fun j => y d * Ideal.cos (angle s (d.val - 16)) + y j * Ideal.sin (angle s (d.val - 16)))
        (Fin.ext (by show (d.val + 128 - 16) % 128 = d.val - 16; omega))
    · rw [if_neg h', if_neg h', if_neg h', dif_neg h', mul_zero, mul_zero, add_zero, add_zero, mul_one]

section
variable (h : (⟨3, ![8, 4096, 1024]⟩ : Shape).Idx → EReal) (g : (⟨2, ![1, 1024]⟩ : Shape).Idx → EReal)
  (w : (⟨3, ![2, 1024, 3072]⟩ : Shape).Idx → EReal)

/-- All projected columns of the token at position `s` of sequence `b`. -/
def projected (b : Fin 8) (s : Fin 4096) : Fin 3072 → EReal := proj (fun k => h (ix3 b s k)) (rowOf g 0) (matOf w)

/-- Coordinate `d` of head `a` in the part of the columns that begins at `o`. -/
def part (o : ℕ) (ho : o ≤ 2048) (b a : Fin 8) (s : Fin 4096) (d : Fin 128) : EReal :=
  projected h g w b s ⟨o + a.val * 128 + d.val, by omega⟩

/-- The rotated queries, by sequence, head, position and coordinate. -/
def queries : (⟨4, ![8, 8, 4096, 128]⟩ : Shape).Idx → EReal := fun i =>
  turned (part h g w 0 (by omega) (i 0) (i 1) (i 2)) (i 2).val (i 3)

/-- The rotated keys, likewise. -/
def keys : (⟨4, ![8, 8, 4096, 128]⟩ : Shape).Idx → EReal := fun i =>
  turned (part h g w 1024 (by omega) (i 0) (i 1) (i 2)) (i 2).val (i 3)

/-- The values, by sequence, head, coordinate and position. -/
def valuesT : (⟨4, ![8, 8, 128, 4096]⟩ : Shape).Idx → EReal := fun i =>
  part h g w 2048 (by omega) (i 0) (i 1) (i 3) (i 2)

/-- The mean key of each block of 256 positions, the heads side by side. -/
def means : (⟨4, ![8, 16, 1, 1024]⟩ : Shape).Idx → EReal := fun i =>
  have i1 : (i 1).val < 16 := (i 1).isLt
  have i3 : (i 3).val < 1024 := (i 3).isLt
  Ideal.div (∑ r : Fin 256, keys h g w (ix4 (n0 := 8) (n1 := 8) (n2 := 4096) (n3 := 128) (i 0) ⟨(i 3).val / 128, by omega⟩
    ⟨(i 1).val * 256 + r.val, by omega⟩ ⟨(i 3).val % 128, by omega⟩)) (Ideal.ofBits .f32 0x43800000#32)

end

end Cert.QkvMath

end
-- ==== Proof.Qkv.Ref.lean ====
/- What the reference's projection leaves: the queries, keys, values and mean keys of `Qkv.Row`. -/
module

public import proofs.«01_k».proof.Proof.Qkv.Row
public import proofs.«01_k».proof.Proof.Gen.QkvRefIdeal.Run
public import Idealize.ShloMosaic.Lib.Tactic.CleanTypes

@[expose] public section

set_option maxRecDepth 16384

noncomputable section

namespace Cert.QkvMath

open Idealize.ShloMosaic Cert.QkvRefIdeal Cert.FfnMath

section
variable (m : (ℓ : Loc nD τ sig) → Buf (Elt Ideal) ℓ) (c : Dev nD)

/-- The reference's first result: the rotated queries. -/
theorem ref_queries : Value.res_out0 (F := Ideal) m c = queries (m ((c.tc : Thread nD τ).loc main_arg0))
    (m ((c.tc : Thread nD τ).loc main_arg1)) (m ((c.tc : Thread nD τ).loc main_arg2)) := by
  have at_point : ∀ (b h : Fin 8) (s : Fin 4096) (d : Fin 128), Value.res_out0 (F := Ideal) m c (ix4 b h s d)
      = queries (m ((c.tc : Thread nD τ).loc main_arg0)) (m ((c.tc : Thread nD τ).loc main_arg1))
        (m ((c.tc : Thread nD τ).loc main_arg2)) (ix4 b h s d) := by
    intro b h s d
    unfold Value.res_out0 Value.res_main_v57
    refine Eq.trans ?_ (turned_by_parts _ _ _).symm
    unfold part projected proj normed invRms angle
    clean_types
    pointwise
  funext i
  have hi : i = ix4 (n0 := 8) (n1 := 8) (n2 := 4096) (n3 := 128) (i 0) (i 1) (i 2) (i 3) := eq_ix4 i
  rw [hi]
  exact at_point _ _ _ _

/-- The reference's second result: the rotated keys. -/
theorem ref_keys : Value.res_out1 (F := Ideal) m c = keys (m ((c.tc : Thread nD τ).loc main_arg0))
    (m ((c.tc : Thread nD τ).loc main_arg1)) (m ((c.tc : Thread nD τ).loc main_arg2)) := by
  have at_point : ∀ (b h : Fin 8) (s : Fin 4096) (d : Fin 128), Value.res_out1 (F := Ideal) m c (ix4 b h s d)
      = keys (m ((c.tc : Thread nD τ).loc main_arg0)) (m ((c.tc : Thread nD τ).loc main_arg1))
        (m ((c.tc : Thread nD τ).loc main_arg2)) (ix4 b h s d) := by
    intro b h s d
    unfold Value.res_out1 Value.res_main_v82
    refine Eq.trans ?_ (turned_by_parts _ _ _).symm
    unfold part projected proj normed invRms angle
    clean_types
    pointwise
  funext i
  have hi : i = ix4 (n0 := 8) (n1 := 8) (n2 := 4096) (n3 := 128) (i 0) (i 1) (i 2) (i 3) := eq_ix4 i
  rw [hi]
  exact at_point _ _ _ _

/-- The reference's fourth result is the mean of its second over each block of 256 positions. -/
theorem ref_means_of_keys (b : Fin 8) (n : Fin 16) (j : Fin 1024) : Value.res_out3 (F := Ideal) m c (ix4 b n 0 j)
    = Ideal.div (∑ r : Fin 256, (Value.res_out1 (F := Ideal) m c : FVec Ideal S8x8x4096x128 .bf16) (ix4 b (⟨j.val / 128, by omega⟩ : Fin 8)
      (⟨n.val * 256 + r.val, by omega⟩ : Fin 4096) (⟨j.val % 128, by omega⟩ : Fin 128))) (Ideal.ofBits .f32 0x43800000#32) := by
  unfold Value.res_out3 Value.res_main_v88 Value.res_out1 Value.res_main_v82
  clean_types
  generalize concatenate S8x8x4096x128 3 _ _ = Y
  pointwise

/-- The reference's fourth result: the mean key of each block. -/
theorem ref_means : Value.res_out3 (F := Ideal) m c = means (m ((c.tc : Thread nD τ).loc main_arg0))
    (m ((c.tc : Thread nD τ).loc main_arg1)) (m ((c.tc : Thread nD τ).loc main_arg2)) := by
  funext i
  have hi : i = ix4 (n0 := 8) (n1 := 16) (n2 := 1) (n3 := 1024) (i 0) (i 1) 0 (i 3) :=
    (eq_ix4 i).trans (congrArg (fun z => ix4 (i 0) (i 1) z (i 3)) (Subsingleton.elim (α := Fin 1) _ _))
  rw [hi]
  refine (ref_means_of_keys m c _ _ _).trans ?_
  rw [ref_keys]
  rfl

end

end Cert.QkvMath

end
-- ==== Proof.Qkv.Tables.lean ====
/- The three tables that host code makes for the rotation: what the kernel's call finds in them, entry by entry. -/
module

public import proofs.«01_k».proof.Proof.Qkv.Row
public import proofs.«01_k».proof.Proof.Gen.QkvIdeal.Value

@[expose] public section

set_option maxRecDepth 16384

noncomputable section

namespace Cert.QkvMath

open Idealize.ShloMosaic Cert.QkvIdeal Cert.QkvIdeal.Gen

/-- The angles as host code computes them: position times inverse frequency. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x48F42400#32))
          (Host.divf (addf (broadcastInDim S16 ![] bcast_S_S16 (constant S_ .f32 0x00000000#32))
              (mulf (broadcastInDim S16 ![] bcast_S_S16 (constant S_ .f32 0x40000000#32)) (sitofp .f32 (iotaInDim S16 32 0))))
            (broadcastInDim S16 ![] bcast_S_S16 (constant S_ .f32 0x42000000#32)))))))

/-- A constant over the 96 coordinates that do not turn. -/
abbrev still (b : BitVec 32) : FVec Ideal S4096x96 .f32 := broadcastInDim S4096x96 ![] bcast_S_S4096x96 (constant S_ .f32 b)
/-- Zeros over 16 coordinates. -/
abbrev none16 : FVec Ideal S4096x16 .f32 := broadcastInDim S4096x16 ![] bcast_S_S4096x16 (constant S_ .f32 0x00000000#32)
/-- Three pieces side by side. -/
abbrev beside (a b : FVec Ideal S4096x16 .f32) (c : FVec Ideal S4096x96 .f32) : FVec Ideal S4096x128 .f32 :=
  concatenate S4096x128 1 [⟨S4096x16, a⟩, ⟨S4096x16, b⟩, ⟨S4096x96, c⟩] concatenates_S4096x16_S4096x16_S4096x96_S4096x128_d1

def cosTable : FVec Ideal S4096x128 .f32 := beside (Host.cos angles) (Host.cos angles) (still 0x3F800000#32)
def lowTable : FVec Ideal S4096x128 .f32 := beside (Host.negf (Host.sin angles)) none16 (still 0x00000000#32)
def highTable : FVec Ideal S4096x128 .f32 := beside none16 (Host.sin angles) (still 0x00000000#32)

section
variable (m : (ℓ : Loc nD τ sig) → Buf (Elt Ideal) ℓ) (c : Dev nD)

set_option maxHeartbeats 4000000 in
theorem V_cos : V m c main_v23 = cosTable := by
  show StableHlo.after hostOps0 (fun b => m (c, b)) (Proc.devRef .tc main_v23) = _
  unfold hostOps0
  after_results_simp
  rfl

set_option maxHeartbeats 4000000 in
theorem V_low : V m c main_v25 = lowTable := by
  show StableHlo.after hostOps0 (fun b => m (c, b)) (Proc.devRef .tc main_v25) = _
  unfold hostOps0
  after_results_simp
  rfl

set_option maxHeartbeats 4000000 in
theorem V_high : V m c main_v26 = highTable := by
  show StableHlo.after hostOps0 (fun b => m (c, b)) (Proc.devRef .tc main_v26) = _
  unfold hostOps0
  after_results_simp
  rfl

/-- The weights are found as launched: over the reals the cast changes nothing. -/
theorem V_weights (k : Fin 1024) (d : Fin 3072) : V m c main_v0 (ix3 0 k d) = m ((c.tc : Thread nD τ).loc main_arg2) (ix3 0 k d) := by
  entry_read
  pointwise

end

theorem angles_apply (s : Fin 4096) (j : Fin 16) : angles (ix2 s j) = angle s.val j.val := by
  unfold angles angle
  pointwise

theorem cosTable_apply (s : Fin 4096) (d : Fin 128) : cosTable (ix2 s d)
    = if d.val < 16 then Ideal.cos (angle s d.val) else if d.val - 16 < 16 then Ideal.cos (angle s (d.val - 16)) else 1 := by
  have ha := angles_apply s
  unfold cosTable
  generalize angles = A at ha ⊢
  pointwise
  simp only [ha, dite_eq_ite]

theorem lowTable_apply (s : Fin 4096) (d : Fin 128) : lowTable (ix2 s d)
    = if d.val < 16 then -Ideal.sin (angle s d.val) else if d.val - 16 < 16 then 0 else 0 := by
  have ha := angles_apply s
  unfold lowTable
  generalize angles = A at ha ⊢
  pointwise
  simp only [ha, dite_eq_ite]

theorem highTable_apply (s : Fin 4096) (d : Fin 128) : highTable (ix2 s d)
    = if d.val < 16 then 0 else if d.val - 16 < 16 then Ideal.sin (angle s (d.val - 16)) else 0 := by
  have ha := angles_apply s
  unfold highTable
  generalize angles = A at ha ⊢
  pointwise
  simp only [ha, dite_eq_ite]

end Cert.QkvMath

end
-- ==== Proof.Qkv.Pieces.lean ====
/- What the stores of one block hold: for every head and row group the rotated queries and keys, the values and the mean
   key of `Qkv.Row`, from the rows' projection. -/
module

public import proofs.«01_k».proof.Proof.Qkv.Tables

@[expose] public section

set_option maxRecDepth 16384

noncomputable section

namespace Cert.QkvMath

open Idealize.ShloMosaic Cert.QkvIdeal Cert.QkvIdeal.Gen Cert.FfnMath

section
variable (x : Vec Ideal S1x256x1024 .f32) (g : Vec Ideal S1x1024 .f32) (w : Vec Ideal S1x1024x3072 .bf16) (r : Fin 256) (c : Fin 3072)

/-- The projection as the first row group computes it. -/
theorem proj_first : k0_pay4 (F := Ideal) x g w (ix2 r c) = proj (fun k => x (ix3 0 r k)) (rowOf g 0) (matOf w) c := by
  unfold proj normed invRms
  pointwise [k0_pay4]

/-- The projection as the second row group computes it. -/
theorem proj_second : k0_pay6 (F := Ideal) (k0_pay5 (F := Ideal) x g) w (ix2 r c)
    = proj (fun k => x (ix3 0 r k)) (rowOf g 0) (matOf w) c := by
  unfold proj normed invRms
  pointwise [k0_pay6, k0_pay5]

/-- The projection as the third row group computes it. -/
theorem proj_third : k0_pay58 (F := Ideal) (k0_pay57 (F := Ideal) x g) w (ix2 r c)
    = proj (fun k => x (ix3 0 r k)) (rowOf g 0) (matOf w) c := by
  unfold proj normed invRms
  pointwise [k0_pay58, k0_pay57]

/-- The projection as the fourth row group computes it. -/
theorem proj_fourth : k0_pay111 (F := Ideal) (k0_pay109 (F := Ideal) x g) (k0_pay110 (F := Ideal) w) (ix2 r c)
    = proj (fun k => x (ix3 0 r k)) (rowOf g 0) (matOf w) c := by
  unfold proj normed invRms
  pointwise [k0_pay111, k0_pay109, k0_pay110]

end

/-- One head's 128 columns of a projected row group, from column `o` on, turned by two rolls and three tables. -/
abbrev turnedHead (o : ℕ) (inb : S256x3072.Slices ![0, o] S256x128) (v : FVec Ideal S256x3072 .f32) (C L H : FVec Ideal S256x128 .f32) :
    FVec Ideal S256x128 .f32 :=
  addf (addf (mulf (extractStridedSlice S256x128 ![0, o] v inb) C)
    (mulf (dynamicRotate 1 112#32 none (extractStridedSlice S256x128 ![0, o] v inb) rotates_S256x128_d1) L))
    (mulf (dynamicRotate 1 16#32 none (extractStridedSlice S256x128 ![0, o] v inb) rotates_S256x128_d1) H)

section
variable {o : ℕ} (ho : o + 128 ≤ 3072) (inb : S256x3072.Slices ![0, o] S256x128) (v : FVec Ideal S256x3072 .f32) (C L H : FVec Ideal S256x128 .f32)

theorem columns_apply (r : Fin 256) (d : Fin 128) :
    extractStridedSlice S256x128 ![0, o] v inb (ix2 r d) = v (ix2 r ⟨o + d.val, by omega⟩) := by
  refine congrArg v ?_
  funext a
  match a with
  | ⟨0, _⟩ => exact Fin.ext (by show 0 + r.val = r.val; omega)
  | ⟨1, _⟩ => rfl

/-- The two rolls of a row, from the row's projection and the tables' rows at the position `s`, are its rotation. -/
theorem turnedHead_apply (X : Fin 3072 → EReal) (s : Fin 4096) (r : Fin 256) (d : Fin 128) (hv : ∀ c, v (ix2 r c) = X c)
    (hC : C (ix2 r d) = cosTable (ix2 s d)) (hL : L (ix2 r d) = lowTable (ix2 s d)) (hH : H (ix2 r d) = highTable (ix2 s d)) :
    turnedHead o inb v C L H (ix2 r d) = turned (fun e => X ⟨o + e.val, by omega⟩) s.val d := by
  rw [← rolls_eq_turned (fun e : Fin 128 => X ⟨o + e.val, by omega⟩) s.val d (C (ix2 r d)) (L (ix2 r d)) (H (ix2 r d))
    (hC.trans (cosTable_apply s d)) (hL.trans (lowTable_apply s d)) (hH.trans (highTable_apply s d))]
  have hcol := fun e : Fin 128 => (columns_apply ho inb v r e).trans (hv ⟨o + e.val, by omega⟩)
  unfold turnedHead
  generalize extractStridedSlice S256x128 ![0, o] v inb = Y at hcol ⊢
  pointwise
  simp only [hcol]

/-- What a store of queries holds. -/
theorem query_store (X : Fin 3072 → EReal) (s : Fin 4096) (a b : Fin 1) (r : Fin 256) (d : Fin 128) (hv : ∀ c, v (ix2 r c) = X c)
    (hC : C (ix2 r d) = cosTable (ix2 s d)) (hL : L (ix2 r d) = lowTable (ix2 s d)) (hH : H (ix2 r d) = highTable (ix2 s d)) :
    (shapeCast S1x1x256x128 (turnedHead o inb v C L H) shapeCasts_S256x128_S1x1x256x128 : FVec Ideal S1x1x256x128 .f32) (ix4 a b r d)
      = turned (fun e => X ⟨o + e.val, by omega⟩) s.val d := by
  rw [← turnedHead_apply ho inb v C L H X s r d hv hC hL hH]
  generalize turnedHead o inb v C L H = Y
  pointwise

/-- What a store of keys holds. -/
theorem key_store (X : Fin 3072 → EReal) (s : Fin 4096) (a b : Fin 1) (r : Fin 256) (d : Fin 128) (hv : ∀ c, v (ix2 r c) = X c)
    (hC : C (ix2 r d) = cosTable (ix2 s d)) (hL : L (ix2 r d) = lowTable (ix2 s d)) (hH : H (ix2 r d) = highTable (ix2 s d)) :
    (shapeCast S1x1x256x128 (truncf .bf16 (turnedHead o inb v C L H) bitsLt_bf16_f32) shapeCasts_S256x128_S1x1x256x128 : FVec Ideal S1x1x256x128 .bf16)
        (ix4 a b r d) = turned (fun e => X ⟨o + e.val, by omega⟩) s.val d := by
  rw [← turnedHead_apply ho inb v C L H X s r d hv hC hL hH]
  generalize turnedHead o inb v C L H = Y
  pointwise

/-- What a store of values holds. -/
theorem value_store (X : Fin 3072 → EReal) (a b : Fin 1) (r : Fin 256) (d : Fin 128) (hv : ∀ c, v (ix2 r c) = X c) :
    (shapeCast S1x1x128x256 (truncf .bf16 (transpose S128x256 [1, 0] (extractStridedSlice S256x128 ![0, o] v inb) transposes_S256x128_p1_0_S128x256)
      bitsLt_bf16_f32) shapeCasts_S128x256_S1x1x128x256 : FVec Ideal S1x1x128x256 .bf16) (ix4 a b d r) = X ⟨o + d.val, by omega⟩ := by
  rw [← hv, ← columns_apply ho inb v r d]
  generalize extractStridedSlice S256x128 ![0, o] v inb = Y
  pointwise

/-- What a store of mean keys holds. -/
theorem mean_store (X : Fin 256 → Fin 3072 → EReal) (s : Fin 256 → Fin 4096) (a b e : Fin 1) (d : Fin 128) (hv : ∀ r c, v (ix2 r c) = X r c)
    (hC : ∀ r, C (ix2 r d) = cosTable (ix2 (s r) d)) (hL : ∀ r, L (ix2 r d) = lowTable (ix2 (s r) d))
    (hH : ∀ r, H (ix2 r d) = highTable (ix2 (s r) d)) :
    (shapeCast S1x1x1x128 (divf (shapeCast S1x128 (multiReduction .add [0] S128 (turnedHead o inb v C L H) 0x00000000#32 reduces_S256x128_S128 (.inl rfl) rfl)
      shapeCasts_S128_S1x128) (broadcast S1x128 (Scalar.ofBits .f32 0x43800000#32))) shapeCasts_S1x128_S1x1x1x128 : FVec Ideal S1x1x1x128 .f32) (ix4 a b e d)
      = Ideal.div (∑ r : Fin 256, turned (fun e => X r ⟨o + e.val, by omega⟩) (s r).val d) (Ideal.ofBits .f32 0x43800000#32) := by
  have ht := fun r => turnedHead_apply ho inb v C L H (X r) (s r) r d (hv r) (hC r) (hL r) (hH r)
  generalize turnedHead o inb v C L H = Y at ht ⊢
  simp only [← ht]
  pointwise

end

end Cert.QkvMath

end
-- ==== Proof.Qkv.Blocks.lean ====
/- What the projection's windows hold at a grid point, from the launched tokens, gains and weights. -/
module

public import proofs.«01_k».proof.Proof.Qkv.Pieces
public import Idealize.ShloMosaic.Lib.Pipeline.ValueKit

@[expose] public section

set_option maxRecDepth 16384

noncomputable section

namespace Cert.QkvMath

open Idealize.ShloMosaic Cert.QkvIdeal Cert.QkvIdeal.Gen Cert.FfnMath

/-- Where the windows of a grid point lie: sequence `t / 4`, quarter `t % 4` of its positions. -/
theorem window_at : ∀ t : Fin grid0.N, win0_0.index t = ![t.val / 4, t.val % 4, 0] ∧ win0_1.index t = ![0, 0]
    ∧ win0_2.index t = ![0, 0, 0] ∧ win0_3.index t = ![t.val % 4, 0] ∧ win0_4.index t = ![t.val % 4, 0]
    ∧ win0_5.index t = ![t.val % 4, 0] ∧ win0_6.index t = ![t.val / 4, 0, t.val % 4, 0]
    ∧ win0_7.index t = ![t.val / 4, 0, t.val % 4, 0] ∧ win0_8.index t = ![t.val / 4, 0, 0, t.val % 4]
    ∧ win0_9.index t = ![t.val / 4, t.val % 4, 0, 0] := by
  decide +kernel

/-- A group of 256 rows of the block of tokens. -/
theorem load_rows {o : ℕ} (ho : o + 256 ≤ 1024) (inb) (X : Vec Ideal S1x1024x1024 .f32) (r : Fin 256) (k : Fin 1024) :
    View.ld X (Rect.unit (s := S1x1024x1024) ![0, o, 0] S1x256x1024.size inb) (ix3 0 r k) = X (ix3 0 ⟨o + r.val, by omega⟩ k) := by
  pointwise
  blk_ext []

/-- A group of 256 rows of a table. -/
theorem load_table {o : ℕ} (ho : o + 256 ≤ 1024) (inb) (X : Vec Ideal S1024x128 .f32) (r : Fin 256) (d : Fin 128) :
    (shapeCast S256x128 (View.ld X (Rect.unit (s := S1024x128) ![o, 0] S256x128.size inb)) shapeCasts_S256x128_S256x128 : FVec Ideal S256x128 .f32)
      (ix2 r d) = X (ix2 ⟨o + r.val, by omega⟩ d) := by
  pointwise
  blk_ext []

section
variable (m : (ℓ : Loc nD τ sig) → Buf (Elt Ideal) ℓ) (c : Dev nD) (t : Fin cfg0.N)

/-- The launched tokens, gains and weights. -/
abbrev tokensIn : Vec Ideal S8x4096x1024 .f32 := m ((c.tc : Thread nD τ).loc main_arg0)
abbrev gainsIn : Vec Ideal S1x1024 .f32 := m ((c.tc : Thread nD τ).loc main_arg1)
abbrev weightsIn : Vec Ideal S2x1024x3072 .f32 := m ((c.tc : Thread nD τ).loc main_arg2)

/-- The sequence that a grid point works on. -/
abbrev seqOf : Fin 8 := ⟨t.val / 4, by have : t.val < 32 := t.isLt; omega⟩

theorem rows_apply {o : ℕ} (ho : o + 256 ≤ 1024) (inb) (s : Fin 4096) (r : Fin 256) (hs : s.val = t.val % 4 * 1024 + (o + r.val)) (k : Fin 1024) :
    View.ld (iblk (F := Ideal) m c 0 t) (Rect.unit (s := S1x1024x1024) ![0, o, 0] S1x256x1024.size inb) (ix3 0 r k)
      = tokensIn m c (ix3 (seqOf t) s k) := by
  refine (load_rows ho inb _ r k).trans ?_
  have e : s = (⟨t.val % 4 * 1024 + (o + r.val), by omega⟩ : Fin 4096) := Fin.ext hs
  rw [e]
  blk_ext [iblk, V, window_at t]

theorem gains_apply (k : Fin 1024) : View.ld (iblk (F := Ideal) m c 1 t) r0_1 (ix2 0 k) = gainsIn m c (ix2 0 k) := by
  pointwise
  blk_ext [iblk, V, window_at t]

theorem weights_apply (k : Fin 1024) (d : Fin 3072) : View.ld (iblk (F := Ideal) m c 2 t) r0_2 (ix3 0 k d) = weightsIn m c (ix3 0 k d) := by
  refine Eq.trans ?_ (V_weights m c k d)
  pointwise
  blk_ext [iblk, window_at t]

theorem cos_apply {o : ℕ} (ho : o + 256 ≤ 1024) (inb) (s : Fin 4096) (r : Fin 256) (hs : s.val = t.val % 4 * 1024 + (o + r.val)) (d : Fin 128) :
    (shapeCast S256x128 (View.ld (iblk (F := Ideal) m c 3 t) (Rect.unit (s := S1024x128) ![o, 0] S256x128.size inb)) shapeCasts_S256x128_S256x128
      : FVec Ideal S256x128 .f32) (ix2 r d) = cosTable (ix2 s d) := by
  refine (load_table ho inb _ r d).trans ?_
  rw [← V_cos m c, show s = (⟨t.val % 4 * 1024 + (o + r.val), by omega⟩ : Fin 4096) from Fin.ext hs]
  blk_ext [iblk, window_at t]

theorem low_apply {o : ℕ} (ho : o + 256 ≤ 1024) (inb) (s : Fin 4096) (r : Fin 256) (hs : s.val = t.val % 4 * 1024 + (o + r.val)) (d : Fin 128) :
    (shapeCast S256x128 (View.ld (iblk (F := Ideal) m c 4 t) (Rect.unit (s := S1024x128) ![o, 0] S256x128.size inb)) shapeCasts_S256x128_S256x128
      : FVec Ideal S256x128 .f32) (ix2 r d) = lowTable (ix2 s d) := by
  refine (load_table ho inb _ r d).trans ?_
  rw [← V_low m c, show s = (⟨t.val % 4 * 1024 + (o + r.val), by omega⟩ : Fin 4096) from Fin.ext hs]
  blk_ext [iblk, window_at t]

theorem high_apply {o : ℕ} (ho : o + 256 ≤ 1024) (inb) (s : Fin 4096) (r : Fin 256) (hs : s.val = t.val % 4 * 1024 + (o + r.val)) (d : Fin 128) :
    (shapeCast S256x128 (View.ld (iblk (F := Ideal) m c 5 t) (Rect.unit (s := S1024x128) ![o, 0] S256x128.size inb)) shapeCasts_S256x128_S256x128
      : FVec Ideal S256x128 .f32) (ix2 r d) = highTable (ix2 s d) := by
  refine (load_table ho inb _ r d).trans ?_
  rw [← V_high m c, show s = (⟨t.val % 4 * 1024 + (o + r.val), by omega⟩ : Fin 4096) from Fin.ext hs]
  blk_ext [iblk, window_at t]

/-- A projected row of a block is the projection of the launched row. -/
theorem projected_row {o : ℕ} (ho : o + 256 ≤ 1024) (inb) (s : Fin 4096) (r : Fin 256) (hs : s.val = t.val % 4 * 1024 + (o + r.val)) (j : Fin 3072) :
    proj (fun k => View.ld (iblk (F := Ideal) m c 0 t) (Rect.unit (s := S1x1024x1024) ![0, o, 0] S1x256x1024.size inb) (ix3 0 r k))
      (rowOf (View.ld (iblk (F := Ideal) m c 1 t) r0_1) 0) (matOf (View.ld (iblk (F := Ideal) m c 2 t) r0_2)) j
      = projected (tokensIn m c) (gainsIn m c) (weightsIn m c) (seqOf t) s j := by
  have e1 : (fun k => View.ld (iblk (F := Ideal) m c 0 t) (Rect.unit (s := S1x1024x1024) ![0, o, 0] S1x256x1024.size inb) (ix3 0 r k))
      = fun k => tokensIn m c (ix3 (seqOf t) s k) := funext fun k => rows_apply m c t ho inb s r hs k
  have e2 : rowOf (View.ld (iblk (F := Ideal) m c 1 t) r0_1) 0 = rowOf (gainsIn m c) 0 := funext fun k => gains_apply m c t k
  have e3 : matOf (View.ld (iblk (F := Ideal) m c 2 t) r0_2) = matOf (weightsIn m c) := funext fun k => funext fun d => weights_apply m c t k d
  rw [e1, e2, e3]
  rfl

end

end Cert.QkvMath

end
-- ==== Proof.Qkv.Array.lean ====
/- The four arrays that the projection leaves: the queries, keys, values and mean keys of `Qkv.Row`. -/
module

public import proofs.«01_k».proof.Proof.Qkv.Blocks

@[expose] public section

set_option maxRecDepth 16384

noncomputable section

namespace Cert.QkvMath

open Idealize.ShloMosaic Cert.QkvIdeal Cert.QkvIdeal.Gen Cert.FfnMath

section
variable (h : (⟨3, ![8, 4096, 1024]⟩ : Shape).Idx → EReal) (g : (⟨2, ![1, 1024]⟩ : Shape).Idx → EReal)
  (w : (⟨3, ![2, 1024, 3072]⟩ : Shape).Idx → EReal)

/-- A turned head of the first 1024 columns is an entry of the queries. -/
theorem turned_eq_queries (b a : Fin 8) (s : Fin 4096) {o : ℕ} (ho : o + 128 ≤ 3072) (hoa : o = 0 + a.val * 128) (d d' : Fin 128) (hd : d' = d) :
    turned (fun e => projected h g w b s ⟨o + e.val, by omega⟩) s.val d = queries h g w (ix4 b a s d') := by
  subst hd hoa
  rfl

/-- A turned head of the next 1024 columns is an entry of the keys. -/
theorem turned_eq_keys (b a : Fin 8) (s : Fin 4096) {o : ℕ} (ho : o + 128 ≤ 3072) (hoa : o = 1024 + a.val * 128) (d d' : Fin 128) (hd : d' = d) :
    turned (fun e => projected h g w b s ⟨o + e.val, by omega⟩) s.val d = keys h g w (ix4 b a s d') := by
  subst hd hoa
  rfl

/-- A column of the last 1024 is an entry of the values. -/
theorem projected_eq_valuesT (b a : Fin 8) (s : Fin 4096) {o : ℕ} (ho : o + 128 ≤ 3072) (hoa : o = 2048 + a.val * 128) (d d' : Fin 128) (hd : d' = d) :
    projected h g w b s ⟨o + d.val, by omega⟩ = valuesT h g w (ix4 b a d' s) := by
  subst hd hoa
  rfl

/-- The mean of a turned head over the 256 positions of a block is an entry of the mean keys. -/
theorem turned_eq_means (b : Fin 8) (n : Fin 16) (j : Fin 1024) (s : Fin 256 → Fin 4096) (hs : ∀ r, (s r).val = n.val * 256 + r.val)
    {o : ℕ} (ho : o + 128 ≤ 3072) (hoa : o = 1024 + j.val / 128 * 128) (d : Fin 128) (hd : d.val = j.val % 128) :
    Ideal.div (∑ r : Fin 256, turned (fun e => projected h g w b (s r) ⟨o + e.val, by omega⟩) (s r).val d) (Ideal.ofBits .f32 0x43800000#32)
      = means h g w (ix4 b n 0 j) := by
  refine congrArg (Ideal.div · (Ideal.ofBits .f32 0x43800000#32)) (Finset.sum_congr rfl fun r _ => ?_)
  refine (turned_eq_keys h g w b ⟨j.val / 128, by omega⟩ (s r) ho hoa d ⟨j.val % 128, by omega⟩ (Fin.ext hd.symm)).trans ?_
  rw [show s r = ⟨n.val * 256 + r.val, by omega⟩ from Fin.ext (hs r)]
  rfl

end

section
variable (m : (ℓ : Loc nD τ sig) → Buf (Elt Ideal) ℓ) (c : Dev nD)

set_option maxHeartbeats 4000000 in
/-- The kernel's first array is the rotated queries. -/
theorem array_queries : (dats (F := Ideal) m 0 c).arrAt 6 (cfgs 0).N = queries (tokensIn m c) (gainsIn m c) (weightsIn m c) := by
  refine (dats m 0 c).arrAt_eq_of_covers 6 _ (by decide +kernel) fun t hf y => ?_
  blk_simp
  rw [after0_6]
  unfold_out out0_6
  have ht : t.val < 32 := t.isLt
  have y2 : (y 2).val < 1024 := (y 2).isLt
  have hi : (win0_6.blk t).view.emb y = ix4 (n0 := 8) (n1 := 8) (n2 := 4096) (n3 := 128) (seqOf t) (y 1)
      ⟨t.val % 4 * 1024 + (y 2).val, by omega⟩ (y 3) := by
    blk_ext [window_at t]
  rw [hi]
  canon_tiles x h
  all_goals
    obtain ⟨a, b, r, d, rfl⟩ : ∃ (a b : Fin 1) (r : Fin 256) (d : Fin 128), x = ix4 a b r d := ⟨x 0, x 1, x 2, x 3, eq_ix4 x⟩
    simp only [ix4_0, ix4_1, ix4_2, ix4_3] at h0 h1 h2 h3
    have hs : ∀ o, (y 2).val = o + r.val → t.val % 4 * 1024 + (y 2).val = t.val % 4 * 1024 + (o + r.val) :=
      fun o e => congrArg (t.val % 4 * 1024 + ·) e
    dsimp only [k0_pay7, k0_pay8, k0_pay9, k0_pay10, k0_pay16, k0_pay22, k0_pay28, k0_pay34, k0_pay39, k0_pay45, k0_pay51, k0_pay59,
      k0_pay60, k0_pay61, k0_pay62, k0_pay68, k0_pay74, k0_pay80, k0_pay86, k0_pay91, k0_pay97, k0_pay103, k0_pay112,
      k0_pay113, k0_pay114, k0_pay115, k0_pay121, k0_pay127, k0_pay133, k0_pay139, k0_pay145, k0_pay150, k0_pay156, k0_pay162,
      k0_pay163, k0_pay164, k0_pay165, k0_pay170, k0_pay171, k0_pay176, k0_pay177, k0_pay182, k0_pay183, k0_pay188, k0_pay189,
      k0_pay194, k0_pay195, k0_pay196, k0_pay197, k0_pay202, k0_pay203, k0_pay204, k0_pay209, k0_pay210, k0_pay211, k0_pay212]
    refine (query_store (by decide) _ _ _ _ _ (projected (tokensIn m c) (gainsIn m c) (weightsIn m c) (seqOf t)
      ⟨t.val % 4 * 1024 + (y 2).val, by omega⟩) ⟨t.val % 4 * 1024 + (y 2).val, by omega⟩ a b r d (fun j => ?_) ?_ ?_ ?_).trans ?_
    · first
        | rw [proj_first]
        | rw [proj_second]
        | rw [proj_third]
        | rw [proj_fourth]
      exact projected_row m c t (by decide) _ _ r (hs _ (by omega)) j
    · exact cos_apply m c t (by decide) _ _ r (hs _ (by omega)) d
    · exact low_apply m c t (by decide) _ _ r (hs _ (by omega)) d
    · exact high_apply m c t (by decide) _ _ r (hs _ (by omega)) d
    · exact turned_eq_queries _ _ _ _ (y 1) _ (by decide) (by omega) d (y 3) (Fin.ext (by omega))

set_option maxHeartbeats 4000000 in
/-- The kernel's second array is the rotated keys. -/
theorem array_keys : (dats (F := Ideal) m 0 c).arrAt 7 (cfgs 0).N = keys (tokensIn m c) (gainsIn m c) (weightsIn m c) := by
  refine (dats m 0 c).arrAt_eq_of_covers 7 _ (by decide +kernel) fun t hf y => ?_
  blk_simp
  rw [after0_7]
  unfold_out out0_7
  have ht : t.val < 32 := t.isLt
  have y2 : (y 2).val < 1024 := (y 2).isLt
  have hi : (win0_7.blk t).view.emb y = ix4 (n0 := 8) (n1 := 8) (n2 := 4096) (n3 := 128) (seqOf t) (y 1)
      ⟨t.val % 4 * 1024 + (y 2).val, by omega⟩ (y 3) := by
    blk_ext [window_at t]
  rw [hi]
  canon_tiles x h
  all_goals
    obtain ⟨a, b, r, d, rfl⟩ : ∃ (a b : Fin 1) (r : Fin 256) (d : Fin 128), x = ix4 a b r d := ⟨x 0, x 1, x 2, x 3, eq_ix4 x⟩
    simp only [ix4_0, ix4_1, ix4_2, ix4_3] at h0 h1 h2 h3
    have hs : ∀ o, (y 2).val = o + r.val → t.val % 4 * 1024 + (y 2).val = t.val % 4 * 1024 + (o + r.val) :=
      fun o e => congrArg (t.val % 4 * 1024 + ·) e
    dsimp only [k0_pay1, k0_pay7, k0_pay8, k0_pay9, k0_pay11, k0_pay12, k0_pay17, k0_pay18, k0_pay23, k0_pay24, k0_pay29, k0_pay30,
      k0_pay35, k0_pay36, k0_pay40, k0_pay41, k0_pay42, k0_pay46, k0_pay47, k0_pay48, k0_pay52, k0_pay53, k0_pay54, k0_pay59,
      k0_pay60, k0_pay61, k0_pay63, k0_pay64, k0_pay69, k0_pay70, k0_pay75, k0_pay76, k0_pay81, k0_pay82, k0_pay87, k0_pay88,
      k0_pay92, k0_pay93, k0_pay94, k0_pay98, k0_pay99, k0_pay100, k0_pay104, k0_pay105, k0_pay106, k0_pay112, k0_pay113,
      k0_pay114, k0_pay116, k0_pay117, k0_pay122, k0_pay123, k0_pay128, k0_pay129, k0_pay134, k0_pay135, k0_pay140, k0_pay141,
      k0_pay146, k0_pay147, k0_pay151, k0_pay152, k0_pay153, k0_pay157, k0_pay158, k0_pay159, k0_pay162, k0_pay163, k0_pay164,
      k0_pay166, k0_pay167, k0_pay172, k0_pay173, k0_pay178, k0_pay179, k0_pay184, k0_pay185, k0_pay190, k0_pay191, k0_pay198,
      k0_pay199, k0_pay205, k0_pay206, k0_pay213, k0_pay214]
    refine (key_store (by decide) _ _ _ _ _ (projected (tokensIn m c) (gainsIn m c) (weightsIn m c) (seqOf t)
      ⟨t.val % 4 * 1024 + (y 2).val, by omega⟩) ⟨t.val % 4 * 1024 + (y 2).val, by omega⟩ a b r d (fun j => ?_) ?_ ?_ ?_).trans ?_
    · first
        | rw [proj_first]
        | rw [proj_second]
        | rw [proj_third]
        | rw [proj_fourth]
      exact projected_row m c t (by decide) _ _ r (hs _ (by omega)) j
    · exact cos_apply m c t (by decide) _ _ r (hs _ (by omega)) d
    · exact low_apply m c t (by decide) _ _ r (hs _ (by omega)) d
    · exact high_apply m c t (by decide) _ _ r (hs _ (by omega)) d
    · exact turned_eq_keys _ _ _ _ (y 1) _ (by decide) (by omega) d (y 3) (Fin.ext (by omega))

set_option maxHeartbeats 4000000 in
/-- The kernel's third array is the values. -/
theorem array_values : (dats (F := Ideal) m 0 c).arrAt 8 (cfgs 0).N = valuesT (tokensIn m c) (gainsIn m c) (weightsIn m c) := by
  refine (dats m 0 c).arrAt_eq_of_covers 8 _ (by decide +kernel) fun t hf y => ?_
  blk_simp
  rw [after0_8]
  unfold_out out0_8
  have ht : t.val < 32 := t.isLt
  have y3 : (y 3).val < 1024 := (y 3).isLt
  have hi : (win0_8.blk t).view.emb y = ix4 (n0 := 8) (n1 := 8) (n2 := 128) (n3 := 4096) (seqOf t) (y 1) (y 2)
      ⟨t.val % 4 * 1024 + (y 3).val, by omega⟩ := by
    blk_ext [window_at t]
  rw [hi]
  canon_tiles x h
  all_goals
    obtain ⟨a, b, d, r, rfl⟩ : ∃ (a b : Fin 1) (d : Fin 128) (r : Fin 256), x = ix4 a b d r := ⟨x 0, x 1, x 2, x 3, eq_ix4 x⟩
    simp only [ix4_0, ix4_1, ix4_2, ix4_3] at h0 h1 h2 h3
    have hs : ∀ o, (y 3).val = o + r.val → t.val % 4 * 1024 + (y 3).val = t.val % 4 * 1024 + (o + r.val) :=
      fun o e => congrArg (t.val % 4 * 1024 + ·) e
    dsimp only [k0_pay2, k0_pay7, k0_pay8, k0_pay9, k0_pay13, k0_pay14, k0_pay19, k0_pay20, k0_pay25, k0_pay26, k0_pay31, k0_pay32,
      k0_pay37, k0_pay43, k0_pay49, k0_pay55, k0_pay59, k0_pay60, k0_pay61, k0_pay65, k0_pay66, k0_pay71, k0_pay72, k0_pay77,
      k0_pay78, k0_pay83, k0_pay84, k0_pay89, k0_pay95, k0_pay101, k0_pay107, k0_pay112, k0_pay113, k0_pay114, k0_pay118,
      k0_pay119, k0_pay124, k0_pay125, k0_pay130, k0_pay131, k0_pay136, k0_pay137, k0_pay142, k0_pay143, k0_pay148, k0_pay154,
      k0_pay160, k0_pay162, k0_pay163, k0_pay164, k0_pay168, k0_pay174, k0_pay180, k0_pay186, k0_pay192, k0_pay200, k0_pay207]
    refine (value_store (by decide) _ _ (projected (tokensIn m c) (gainsIn m c) (weightsIn m c) (seqOf t)
      ⟨t.val % 4 * 1024 + (y 3).val, by omega⟩) a b r d (fun j => ?_)).trans ?_
    · first
        | rw [proj_first]
        | rw [proj_second]
        | rw [proj_third]
        | rw [proj_fourth]
      exact projected_row m c t (by decide) _ _ r (hs _ (by omega)) j
    · exact projected_eq_valuesT _ _ _ _ (y 1) _ (by decide) (by omega) d (y 2) (Fin.ext (by omega))

set_option maxHeartbeats 4000000 in
/-- The kernel's fourth array is the mean keys. -/
theorem array_means : (dats (F := Ideal) m 0 c).arrAt 9 (cfgs 0).N = means (tokensIn m c) (gainsIn m c) (weightsIn m c) := by
  refine (dats m 0 c).arrAt_eq_of_covers 9 _ (by decide +kernel) fun t hf y => ?_
  blk_simp
  rw [after0_9]
  unfold_out out0_9
  have ht : t.val < 32 := t.isLt
  have y1 : (y 1).val < 4 := (y 1).isLt
  have y3 : (y 3).val < 1024 := (y 3).isLt
  have hi : (win0_9.blk t).view.emb y = ix4 (n0 := 8) (n1 := 16) (n2 := 1) (n3 := 1024) (seqOf t)
      ⟨t.val % 4 * 4 + (y 1).val, by omega⟩ 0 (y 3) := by
    blk_ext [window_at t]
  rw [hi]
  canon_tiles x h
  all_goals
    obtain ⟨a, b, e, d, rfl⟩ : ∃ (a b e : Fin 1) (d : Fin 128), x = ix4 a b e d := ⟨x 0, x 1, x 2, x 3, eq_ix4 x⟩
    simp only [ix4_0, ix4_1, ix4_2, ix4_3] at h0 h1 h2 h3
    have hs : ∀ (o : ℕ) (r : Fin 256), (y 1).val * 256 = o →
        t.val % 4 * 1024 + ((y 1).val * 256 + r.val) = t.val % 4 * 1024 + (o + r.val) := fun o r e => by rw [e]
    dsimp only [k0_pay3, k0_pay7, k0_pay8, k0_pay9, k0_pay11, k0_pay15, k0_pay17, k0_pay21, k0_pay23, k0_pay27, k0_pay29, k0_pay33,
      k0_pay35, k0_pay38, k0_pay40, k0_pay44, k0_pay46, k0_pay50, k0_pay52, k0_pay56, k0_pay59, k0_pay60, k0_pay61, k0_pay63,
      k0_pay67, k0_pay69, k0_pay73, k0_pay75, k0_pay79, k0_pay81, k0_pay85, k0_pay87, k0_pay90, k0_pay92, k0_pay96, k0_pay98,
      k0_pay102, k0_pay104, k0_pay108, k0_pay112, k0_pay113, k0_pay114, k0_pay116, k0_pay120, k0_pay122, k0_pay126, k0_pay128,
      k0_pay132, k0_pay134, k0_pay138, k0_pay140, k0_pay144, k0_pay146, k0_pay149, k0_pay151, k0_pay155, k0_pay157, k0_pay161,
      k0_pay162, k0_pay163, k0_pay164, k0_pay166, k0_pay169, k0_pay172, k0_pay175, k0_pay178, k0_pay181, k0_pay184, k0_pay187,
      k0_pay190, k0_pay193, k0_pay198, k0_pay201, k0_pay205, k0_pay208, k0_pay213]
    refine (mean_store (by decide) _ _ _ _ _ (fun r => projected (tokensIn m c) (gainsIn m c) (weightsIn m c) (seqOf t)
      ⟨t.val % 4 * 1024 + ((y 1).val * 256 + r.val), by omega⟩) (fun r => ⟨t.val % 4 * 1024 + ((y 1).val * 256 + r.val), by omega⟩)
      a b e d (fun r j => ?_) (fun r => ?_) (fun r => ?_) (fun r => ?_)).trans ?_
    · first
        | rw [proj_first]
        | rw [proj_second]
        | rw [proj_third]
        | rw [proj_fourth]
      exact projected_row m c t (by decide) _ _ r (hs _ r (by omega)) j
    · exact cos_apply m c t (by decide) _ _ r (hs _ r (by omega)) d
    · exact low_apply m c t (by decide) _ _ r (hs _ r (by omega)) d
    · exact high_apply m c t (by decide) _ _ r (hs _ r (by omega)) d
    · exact turned_eq_means _ _ _ _ _ _ _ (fun r => by dsimp only; omega) (by decide) (by omega) d (by omega)

end

end Cert.QkvMath

end
-- ==== Proof.Qkv.Claims.lean ====
/- The projection's claims: its frames, and that kernel and reference compute one function over the extended reals. -/
module

public import proofs.«01_k».proof.Defs
public import proofs.«01_k».proof.Proof.Qkv.Ref
public import proofs.«01_k».proof.Proof.Qkv.Array
public import proofs.«01_k».proof.Proof.Gen.Qkv.Frame

@[expose] public section

set_option maxRecDepth 16384

noncomputable section

namespace Cert.QkvClaims

open Idealize.ShloMosaic Idealize.SL.Sem Cert.QkvMath Cert.FfnMath

/-- The reference runs and leaves its arguments; it has no semaphores. -/
theorem frame_ref : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

/-- The four arrays of the kernel and the four results of the reference are the rotated queries and keys, the values and
the mean keys (`QkvMath.queries`, `keys`, `valuesT`, `means`) of arguments that agree. -/
theorem algebraic : Cert.algebraic_QkvIdeal_QkvRefIdeal := by
  intro m ρ m' ρ' _ hagree
  refine ⟨_, _, _, _, Cert.QkvIdeal.Value.run_blocks (F := Ideal) m ρ, ?_⟩
  refine (θ_run Cert.QkvRefIdeal.defs _ _).mono (fun _ h c => ⟨(h c).1.trans ?_, (h c).2.1.trans ?_, (h c).2.2.1.trans ?_,
    (h c).2.2.2.1.trans ?_, (h c).2.2.2.2⟩) (Cert.QkvRefIdeal.Value.run (F := Ideal) m' ρ')
  all_goals obtain ⟨a0, a1, a2⟩ := hagree c
  · refine (ref_queries m' c).trans (Eq.trans ?_ (array_queries m c).symm)
    rw [a0, a1, a2]
  · refine (ref_keys m' c).trans (Eq.trans ?_ (array_keys m c).symm)
    rw [a0, a1, a2]
  · refine Eq.trans ?_ (array_values m c).symm
    unfold tokensIn gainsIn weightsIn
    rw [← a0, ← a1, ← a2]
    funext i
    have hi : i = ix4 (n0 := 8) (n1 := 8) (n2 := 128) (n3 := 4096) (i 0) (i 1) (i 2) (i 3) := eq_ix4 i
    rw [hi]
    generalize (i 0 : Fin 8) = b, (i 1 : Fin 8) = a, (i 2 : Fin 128) = d, (i 3 : Fin 4096) = s
    unfold valuesT part projected proj normed invRms
    clean_types
    pointwise
  · refine (ref_means m' c).trans (Eq.trans ?_ (array_means m c).symm)
    rw [a0, a1, a2]

end Cert.QkvClaims

end
-- ==== Proof.Moba.Stages.lean ====
/- The reference's attention in named steps, and that its result is the last of them. -/
module

public import proofs.«01_k».proof.Proof.Gen.MobaRefIdeal.Run
public import Idealize.ShloMosaic.PureOps.Ideal
public import Idealize.ShloMosaic.Lib.Pointwise
public import Idealize.ShloMosaic.Lib.Tactic.CleanTypes

@[expose] public section

set_option maxRecDepth 16384

noncomputable section

namespace Cert.MobaRef

open Idealize.ShloMosaic Idealize.ShloMosaic.TcCoe Cert.MobaRefIdeal Cert.MobaRefIdeal.Gen

variable (Q : FVec Ideal S8x8x4096x128 .f32) (K : FVec Ideal S8x8x4096x128 .bf16) (W : FVec Ideal S8x8x128x4096 .bf16)
  (M : FVec Ideal S8x16x1024 .f32)

/-- The queries by block. -/
def queries : FVec Ideal S8x8x16x256x128 .f32 := shapeCast _ Q shapeCasts_S8x8x4096x128_S8x8x16x256x128

/-- The keys by block. -/
def keys : FVec Ideal S8x8x16x256x128 .f32 :=
  shapeCast _ (extf .f32 K bitsLt_bf16_f32) shapeCasts_S8x8x4096x128_S8x8x16x256x128

/-- The values by block. -/
def vals : FVec Ideal S8x8x16x256x128 .f32 :=
  shapeCast _ (transpose S8x8x4096x128 [0, 1, 3, 2] (extf .f32 W bitsLt_bf16_f32) transposes_S8x8x128x4096_S8x8x4096x128_0_1_3_2)
    shapeCasts_S8x8x4096x128_S8x8x16x256x128

/-- The means by block and head. -/
def means : FVec Ideal S8x16x8x128 .f32 := shapeCast _ M shapeCasts_S8x16x1024_S8x16x8x128

/-- One over the root of the head's width. -/
def scale : FVec Ideal S_ .f32 := Host.divf (constant S_ .f32 0x3F800000#32) (Host.sqrt (constant S_ .f32 0x43000000#32))

/-- The number of the query's block. -/
def qblk : IVec S16x1x1 32 := broadcastInDim S16x1x1 ![0] bcast_S16_S16x1x1_0 (iotaInDim S16 32 0)

/-- Which blocks lie before the query's. -/
def past : IVec S16x1x16 1 :=
  cmpi .slt (broadcastInDim S16x1x16 ![0, 1, 2] bcast_S1x1x16_S16x1x16_0_1_2
      (broadcastInDim S1x1x16 ![2] bcast_S16_S1x1x16_2 (iotaInDim S16 32 0)))
    (broadcastInDim S16x1x16 ![0, 1, 2] bcast_S16x1x1_S16x1x16_0_1_2 qblk)

/-- The gates. -/
def gates : FVec Ideal S8x8x16x256x16 .f32 :=
  select (broadcastInDim S8x8x16x256x16 ![2, 3, 4] bcast_S16x1x16_S8x8x16x256x16_2_3_4 past)
    (Host.dotGeneral dot_S8x8x16x256x128_S8x16x8x128_S8x8x16x256x16_4_3_23_1_01_02 none (queries Q) (means M))
    (broadcastInDim S8x8x16x256x16 ![] bcast_S_S8x8x16x256x16 (id (constant S_ .f32 0xFF800000#32)))

/-- The three blocks of the greatest gates. -/
def indices : IVec S8x8x16x256x3 32 :=
  (Host.topK S8x8x16x256x3 4 (FloatOps.cmpfTotal .gt) (gates Q M) sliceFits_S8x8x16x256x16_S8x8x16x256x3).2

section
variable (X : IVec S8x8x16x256x3 32)

/-- Whether a chosen block lies before the query's. -/
def valid : IVec S8x8x16x256x3 1 :=
  cmpi .slt X (broadcastInDim S8x8x16x256x3 ![0, 1, 2, 3, 4] bcast_S1x1x16x1x1_S8x8x16x256x3_0_1_2_3_4
    (broadcastInDim S1x1x16x1x1 ![2, 3, 4] bcast_S16x1x1_S1x1x16x1x1_2_3_4 qblk))

/-- The batch's number, taken from the end where it is negative. -/
def batchNo : IVec S8x1x1x1x1 32 :=
  select (cmpi .slt (broadcastInDim S8x1x1x1x1 ![0] bcast_S8_S8x1x1x1x1_0 (iotaInDim S8 32 0))
      (broadcastInDim S8x1x1x1x1 ![] bcast_S_S8x1x1x1x1 (constantI S_ 32 0#32)))
    (addi (broadcastInDim S8x1x1x1x1 ![0] bcast_S8_S8x1x1x1x1_0 (iotaInDim S8 32 0))
      (broadcastInDim S8x1x1x1x1 ![] bcast_S_S8x1x1x1x1 (constantI S_ 32 8#32)))
    (broadcastInDim S8x1x1x1x1 ![0] bcast_S8_S8x1x1x1x1_0 (iotaInDim S8 32 0))

/-- The head's number, likewise. -/
def headNo : IVec S1x8x1x1x1 32 :=
  select (cmpi .slt (broadcastInDim S1x8x1x1x1 ![1] bcast_S8_S1x8x1x1x1_1 (iotaInDim S8 32 0))
      (broadcastInDim S1x8x1x1x1 ![] bcast_S_S1x8x1x1x1 (constantI S_ 32 0#32)))
    (addi (broadcastInDim S1x8x1x1x1 ![1] bcast_S8_S1x8x1x1x1_1 (iotaInDim S8 32 0))
      (broadcastInDim S1x8x1x1x1 ![] bcast_S_S1x8x1x1x1 (constantI S_ 32 8#32)))
    (broadcastInDim S1x8x1x1x1 ![1] bcast_S8_S1x8x1x1x1_1 (iotaInDim S8 32 0))

/-- The block's number, likewise. -/
def blockNo : IVec S8x8x16x256x3 32 :=
  select (cmpi .slt X (broadcastInDim S8x8x16x256x3 ![] bcast_S_S8x8x16x256x3 (constantI S_ 32 0#32)))
    (addi X (broadcastInDim S8x8x16x256x3 ![] bcast_S_S8x8x16x256x3 (constantI S_ 32 16#32))) X

/-- The three numbers side by side. -/
def starts : IVec S8x8x16x256x3x3 32 :=
  concatenate S8x8x16x256x3x3 5
    [⟨S8x8x16x256x3x1, broadcastInDim S8x8x16x256x3x1 ![0, 1, 2, 3, 4] bcast_S8x8x16x256x3_S8x8x16x256x3x1_0_1_2_3_4
        (broadcastInDim S8x8x16x256x3 ![0, 1, 2, 3, 4] bcast_S8x1x1x1x1_S8x8x16x256x3_0_1_2_3_4 batchNo)⟩,
      ⟨S8x8x16x256x3x1, broadcastInDim S8x8x16x256x3x1 ![0, 1, 2, 3, 4] bcast_S8x8x16x256x3_S8x8x16x256x3x1_0_1_2_3_4
        (broadcastInDim S8x8x16x256x3 ![0, 1, 2, 3, 4] bcast_S1x8x1x1x1_S8x8x16x256x3_0_1_2_3_4 headNo)⟩,
      ⟨S8x8x16x256x3x1, broadcastInDim S8x8x16x256x3x1 ![0, 1, 2, 3, 4] bcast_S8x8x16x256x3_S8x8x16x256x3x1_0_1_2_3_4 (blockNo X)⟩]
    concatenates_S8x8x16x256x3x1_S8x8x16x256x3x1_S8x8x16x256x3x1_S8x8x16x256x3x3_d5

/-- An array's rows of the chosen blocks. -/
def gathered (A : FVec Ideal S8x8x16x256x128 .f32) : FVec Ideal S8x8x16x256x3x256x128 .f32 :=
  Host.gather gather_S8x8x16x256x128_S8x8x16x256x3x3_S8x8x16x256x3x256x128_56_012_n_n_012_5_111256128 A (starts X)

/-- The scores against the chosen blocks. -/
def chosenScores : FVec Ideal S8x8x16x256x3x256 .f32 :=
  select (broadcastInDim S8x8x16x256x3x256 ![0, 1, 2, 3, 4, 5] bcast_S8x8x16x256x3x1_S8x8x16x256x3x256_0_1_2_3_4_5
      (broadcastInDim S8x8x16x256x3x1 ![0, 1, 2, 3, 4] bcast_S8x8x16x256x3_S8x8x16x256x3x1_0_1_2_3_4 (valid X)))
    (mulf (Host.dotGeneral dot_S8x8x16x256x128_S8x8x16x256x3x256x128_S8x8x16x256x3x256_4_6_n_45_0123_0123 none (queries Q) (gathered X (keys K)))
      (broadcastInDim S8x8x16x256x3x256 ![] bcast_S_S8x8x16x256x3x256 scale))
    (broadcastInDim S8x8x16x256x3x256 ![] bcast_S_S8x8x16x256x3x256 (id (constant S_ .f32 0xFF800000#32)))

/-- The scores against the query's own block. -/
def ownScores : FVec Ideal S8x8x16x256x256 .f32 :=
  select (broadcastInDim S8x8x16x256x256 ![3, 4] bcast_S256x256_S8x8x16x256x256_3_4
      (cmpi .sle (broadcastInDim S256x256 ![0, 1] bcast_S1x256_S256x256_0_1 (broadcastInDim S1x256 ![1] bcast_S256_S1x256_1 (iotaInDim S256 32 0)))
        (broadcastInDim S256x256 ![0, 1] bcast_S256x1_S256x256_0_1 (broadcastInDim S256x1 ![0] bcast_S256_S256x1_0 (iotaInDim S256 32 0)))))
    (mulf (Host.dotGeneral dot_S8x8x16x256x128_S8x8x16x256x128_S8x8x16x256x256_4_4_3_3_012_012 none (queries Q) (keys K))
      (broadcastInDim S8x8x16x256x256 ![] bcast_S_S8x8x16x256x256 scale))
    (broadcastInDim S8x8x16x256x256 ![] bcast_S_S8x8x16x256x256 (id (constant S_ .f32 0xFF800000#32)))

/-- All scores of a query in a row. -/
def allScores : FVec Ideal S8x8x16x256x1024 .f32 :=
  concatenate S8x8x16x256x1024 4
    [⟨S8x8x16x256x768, shapeCast _ (chosenScores Q K X) shapeCasts_S8x8x16x256x3x256_S8x8x16x256x768⟩, ⟨S8x8x16x256x256, ownScores Q K⟩]
    concatenates_S8x8x16x256x768_S8x8x16x256x256_S8x8x16x256x1024_d4

end

section
variable (S : FVec Ideal S8x8x16x256x1024 .f32)

/-- The greatest score. -/
def greatest : FVec Ideal S8x8x16x256 .f32 :=
  maximumf (broadcastInDim S8x8x16x256 ![] bcast_S_S8x8x16x256 (constant S_ .f32 0xFF800000#32))
    (Host.reduce FloatOps.maximumf S (constant S_ .f32 0xFF800000#32) reducesTo_S8x8x16x256x1024_S8x8x16x256_d4 h_S_)

/-- The exponentials of the scores. -/
def exps : FVec Ideal S8x8x16x256x1024 .f32 :=
  Host.exp (subf S (broadcastInDim S8x8x16x256x1024 ![0, 1, 2, 3, 4] bcast_S8x8x16x256x1_S8x8x16x256x1024_0_1_2_3_4
    (broadcastInDim S8x8x16x256x1 ![0, 1, 2, 3] bcast_S8x8x16x256_S8x8x16x256x1_0_1_2_3 (greatest S))))

/-- The weights. -/
def weights : FVec Ideal S8x8x16x256x1024 .f32 :=
  Host.divf (exps S) (broadcastInDim S8x8x16x256x1024 ![0, 1, 2, 3, 4] bcast_S8x8x16x256x1_S8x8x16x256x1024_0_1_2_3_4
    (broadcastInDim S8x8x16x256x1 ![0, 1, 2, 3] bcast_S8x8x16x256_S8x8x16x256x1_0_1_2_3
      (Host.reduceAdd (exps S) (constant S_ .f32 0x00000000#32) reducesTo_S8x8x16x256x1024_S8x8x16x256_d4 h_S_)))

/-- The values weighted, from the weights. -/
def weightedValues (X : IVec S8x8x16x256x3 32) (E : FVec Ideal S8x8x16x256x1024 .f32) : FVec Ideal S8x8x16x256x128 .f32 :=
  addf (Host.dotGeneral dot_S8x8x16x256x3x256_S8x8x16x256x3x256x128_S8x8x16x256x128_45_45_n_6_0123_0123 none
      (shapeCast _ (extractStridedSlice S8x8x16x256x768 ![0, 0, 0, 0, 0] E slices_S8x8x16x256x1024_S8x8x16x256x768_0_0_0_0_0)
        shapeCasts_S8x8x16x256x768_S8x8x16x256x3x256) (gathered X (vals W)))
    (Host.dotGeneral dot_S8x8x16x256x256_S8x8x16x256x128_S8x8x16x256x128_4_3_3_4_012_012 none
      (extractStridedSlice S8x8x16x256x256 ![0, 0, 0, 0, 768] E slices_S8x8x16x256x1024_S8x8x16x256x256_0_0_0_0_768) (vals W))

end

/-- The reference's result. -/
def answer : FVec Ideal S8x4096x1024 .bf16 :=
  truncf .bf16 (shapeCast _ (transpose S8x16x256x8x128 [0, 2, 3, 1, 4]
    (weightedValues W (indices Q M) (weights (allScores Q K (indices Q M)))) transposes_S8x8x16x256x128_S8x16x256x8x128_0_2_3_1_4)
    shapeCasts_S8x16x256x8x128_S8x4096x1024) bitsLt_bf16_f32

/-- The reference's result is the last step. -/
theorem result_answer (m : (ℓ : Loc nD τ sig) → Buf (Elt Ideal) ℓ) (c : Dev nD) :
    Value.res_out0 (F := Ideal) m c = answer (m ((c.tc : Thread nD τ).loc main_arg0)) (m ((c.tc : Thread nD τ).loc main_arg1))
      (m ((c.tc : Thread nD τ).loc main_arg2)) (m ((c.tc : Thread nD τ).loc main_arg3)) := by
  rfl

end Cert.MobaRef
-- ==== Proof.Moba.Choice.lean ====
/- Which key blocks a query attends to. -/
module

public import Idealize.ShloMosaic.PureOps.Ideal

@[expose] public section

noncomputable section

namespace Cert.MobaMath

open Idealize.ShloMosaic

/-- Block `m` goes before block `j`: its gate is greater, or equal and its number smaller. -/
def Ahead (g : Fin 16 → EReal) (m j : Fin 16) : Prop := g j < g m ∨ (g m = g j ∧ m < j)

open Classical in
/-- How many of the blocks go before block `j`. -/
def place (g : Fin 16 → EReal) (j : Fin 16) : Nat := ∑ m : Fin 16, if Ahead g m j then 1 else 0

/-- A count is at most sixteen. -/
theorem place_le (g : Fin 16 → EReal) (j : Fin 16) : place g j ≤ 16 := by
  classical
  refine (Finset.sum_le_card_nsmul _ _ 1 fun m _ => ?_).trans (by simp)
  split <;> omega

/-- The gate of block `j` for a query `Q` of block `c`: its mean times the query, minus infinity from block `c` on. -/
def gate (c : Nat) (M : Fin 16 → Fin 128 → EReal) (Q : Fin 128 → EReal) (j : Fin 16) : EReal :=
  if j.val < c then ∑ d : Fin 128, M j d * Q d else ⊥

/-- What the kernel adds to the scores of block `j`. -/
def biasOf (c : Nat) (M : Fin 16 → Fin 128 → EReal) (Q : Fin 128 → EReal) (j : Fin 16) : EReal :=
  if j.val < c ∧ 3 ≤ place (gate c M Q) j then ⊥ else 0

/-- The scale of the kernel's scores: `1/√128`, over `log 2`. -/
def scale2 : EReal := (((Real.sqrt 128)⁻¹ * (Real.log 2)⁻¹ : ℝ) : EReal)

/-- The score of key `i` of block `j` for query `q` of block `c`, as the kernel has it. -/
def kscore (c q : Nat) (M : Fin 16 → Fin 128 → EReal) (Q : Fin 128 → EReal) (K : Fin 16 → Fin 256 → Fin 128 → EReal) (j : Fin 16) (i : Fin 256) : EReal :=
  if j.val = c ∧ ¬ i.val ≤ q then ⊥ else (∑ d : Fin 128, K j i d * (Q d * scale2)) + biasOf c M Q j

/-- The maximum of the scores of the blocks up to `c`. -/
def topOf (c : Nat) (S : Fin 16 → Fin 256 → EReal) : EReal :=
  Finset.univ.sup fun j : Fin 16 => if j.val ≤ c then Finset.univ.sup (S j) else ⊥

/-- The values of the blocks up to `c`, times the exponentials of their scores. -/
def massOf (c : Nat) (S V : Fin 16 → Fin 256 → EReal) : EReal :=
  ∑ j : Fin 16, if j.val ≤ c then ∑ i : Fin 256, V j i * Ideal.exp2 (S j i - topOf c S) else 0

/-- What the kernel answers: the weighted values times the inverse of the weights' sum. -/
def kanswer (c : Nat) (S V : Fin 16 → Fin 256 → EReal) : EReal := massOf c S V * Ideal.div 1 (massOf c S fun _ _ => 1)

end Cert.MobaMath
-- ==== Proof.Moba.Top.lean ====
/- The position of a block among the sorted gates. -/
module

public import proofs.«01_k».proof.Proof.Moba.Choice
public import Idealize.ShloMosaic.Lib.SortPrefix

@[expose] public section

noncomputable section

namespace Cert.MobaMath

open Idealize.ShloMosaic

/-- The comparison of the reference's sort: by the gate alone. -/
def greater (g : Fin 16 → EReal) (k k' : Fin 16) : Bool := FloatOps.cmpfTotal (F := Ideal) (φ := .f32) .gt (g k) (g k') == 1#1

theorem greater_eq (g : Fin 16 → EReal) (k k' : Fin 16) : greater g k k' = decide (g k' < g k) := by
  unfold greater
  show (Ideal.cmp .ogt (g k) (g k') == 1#1) = _
  by_cases h : g k' < g k <;> simp [Ideal.cmp, h]

/-- The comparison by the gate and then by the number. -/
def ahead (g : Fin 16 → EReal) (k k' : Fin 16) : Bool :=
  (fun a b : EReal => decide (b < a)) (g k) (g k') || (decide (g k = g k') && decide (k < k'))

theorem ahead_iff (g : Fin 16 → EReal) (k k' : Fin 16) : ahead g k k' = true ↔ Ahead g k k' := by
  simp [ahead, Ahead]

theorem ahead_strict (g : Fin 16 → EReal) : StrictTotalBefore (ahead g) := by
  refine StrictTotalBefore.of_key_then_position (fun a b : EReal => decide (b < a)) g ?_ ?_ ?_
  · intro a; simp
  · intro a b c; simp only [decide_eq_true_eq]; exact fun h h' => lt_trans h' h
  · intro a b
    simp only [decide_eq_true_eq]
    rcases lt_trichotomy a b with h | h | h
    · exact Or.inr (Or.inr h)
    · exact Or.inr (Or.inl h)
    · exact Or.inl h

/-- On a list whose numbers increase, the two comparisons sort alike. -/
theorem sort_alike (g : Fin 16 → EReal) (l : List (Fin 16)) (hl : l.Pairwise (· < ·)) :
    stableSort (greater g) l = stableSort (ahead g) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    rw [greater_eq]
    simp [ahead, not_lt.mpr hab.le]

theorem sortedFrom_of_positions {n : Nat} {R R' : Fin n → Fin n → Bool} (h : sortPositions n R = sortPositions n R') (i : Fin n) :
    sortedFrom R i = sortedFrom R' i := by
  unfold sortedFrom
  exact List.get_of_eq h _

theorem sorted_alike (g : Fin 16 → EReal) (i : Fin 16) : sortedFrom (greater g) i = sortedFrom (ahead g) i :=
  sortedFrom_of_positions (sort_alike g _ (List.pairwise_lt_finRange 16)) i

/-- The block at position `i` of the sorted gates. -/
@[irreducible] def blockAt (g : Fin 16 → EReal) (i : Fin 16) : Fin 16 := sortedFrom (greater g) i

theorem blockAt_def (g : Fin 16 → EReal) : blockAt g = sortedFrom (greater g) := by
  funext i
  unfold blockAt
  rfl

theorem blockAt_injective (g : Fin 16 → EReal) : Function.Injective (blockAt g) := by
  rw [blockAt_def]
  exact sortedFrom_injective _

theorem blockAt_surjective (g : Fin 16 → EReal) : Function.Surjective (blockAt g) := by
  rw [blockAt_def]
  exact sortedFrom_surjective _

theorem ahead_blockAt (g : Fin 16 → EReal) (a b : Fin 16) : Ahead g (blockAt g a) (blockAt g b) ↔ a < b := by
  have hs := ahead_strict g
  have no : ∀ i j : Fin 16, i < j → ahead g (blockAt g j) (blockAt g i) = false := by
    intro i j hij
    rw [blockAt_def, sorted_alike, sorted_alike]
    exact sortedFrom_noInversion _ _ hs.asymm (fun _ _ h => h) hs.negTrans i j hij
  rw [← ahead_iff]
  constructor
  · intro h
    by_contra hab
    rcases lt_or_eq_of_le (not_lt.mp hab) with h' | h'
    · rw [no _ _ h'] at h; exact absurd h (by decide)
    · rw [h', hs.irrefl] at h; exact absurd h (by decide)
  · intro h
    rcases hs.total (blockAt g a) (blockAt g b) (fun e => (ne_of_lt h) (blockAt_injective g e)) with h' | h'
    · exact h'
    · rw [no _ _ h] at h'; exact absurd h' (by decide)

/-- As many blocks go before the block at position `i` as there are smaller positions. -/
theorem place_blockAt (g : Fin 16 → EReal) (i : Fin 16) : place g (blockAt g i) = i.val := by
  classical
  have hf : Finset.univ.filter (fun m => Ahead g m (blockAt g i)) = (Finset.Iio i).map ⟨blockAt g, blockAt_injective g⟩ := by
    ext m
    obtain ⟨a, rfl⟩ := blockAt_surjective g m
    rw [Finset.mem_filter, Finset.mem_map]
    constructor
    · rintro ⟨_, h⟩
      exact ⟨a, Finset.mem_Iio.mpr ((ahead_blockAt g a i).mp h), rfl⟩
    · rintro ⟨b, hb, e⟩
      obtain rfl : b = a := blockAt_injective g e
      exact ⟨Finset.mem_univ _, (ahead_blockAt g b i).mpr (Finset.mem_Iio.mp hb)⟩
  have hp : place g (blockAt g i) = (Finset.univ.filter (fun m => Ahead g m (blockAt g i))).card := by
    unfold place
    rw [Finset.card_filter]
  rw [hp, hf, Finset.card_map, Fin.card_Iio]

/-- A block is among the first three exactly if fewer than three go before it. -/
theorem place_lt_iff (g : Fin 16 → EReal) (j : Fin 16) :
    place g j < 3 ↔ ∃ s : Fin 3, blockAt g ⟨s.val, by omega⟩ = j := by
  constructor
  · intro h
    obtain ⟨i, rfl⟩ := blockAt_surjective g j
    rw [place_blockAt] at h
    exact ⟨⟨i.val, h⟩, rfl⟩
  · rintro ⟨s, rfl⟩
    rw [place_blockAt]
    exact s.isLt

end Cert.MobaMath
-- ==== Proof.Moba.Tower.lean ====
/- The attention kernel's body as vector functions that are generic in the query block: the gates and
   ranks of one block of queries, the scores of one group of key blocks, the stores into a score
   buffer, the running maximum, the weighted values and the quotient. -/
module

public import proofs.«01_k».proof.Proof.Gen.MobaIdeal.Frame

@[expose] public section

noncomputable section

namespace Cert.MobaTower

open Idealize.ShloMosaic Cert.MobaIdeal Cert.MobaIdeal.Gen

/-! ## Side conditions of a group of `n` key blocks -/

/-- What the printer decides of the shapes of a group of `n` key blocks. -/
structure Group (n : Nat) : Prop where
  pos : 1 ≤ n
  le : n ≤ 4
  castK : (⟨4, ![1, 1, 256 * n, 128]⟩ : Shape).ShapeCasts ⟨2, ![256 * n, 128]⟩
  castO : (⟨2, ![256 * n, 128]⟩ : Shape).ShapeCasts ⟨2, ![256 * n, 128]⟩
  castV : (⟨4, ![1, 1, 128, 256 * n]⟩ : Shape).ShapeCasts ⟨2, ![128, 256 * n]⟩
  catK : Shape.Concatenates [⟨2, ![256 * n, 128]⟩, ⟨2, ![256 * n, 128]⟩] ⟨2, ![256 * n, 256]⟩ 1
  catV : Shape.Concatenates [⟨2, ![128, 256 * n]⟩, ⟨2, ![16, 256 * n]⟩] ⟨2, ![144, 256 * n]⟩ 0
  dotS : DotDims.WF ⟨2, ![256 * n, 256]⟩ S256x256 ⟨2, ![256 * n, 256]⟩ [1] [1] [0] [0] [] []
  dotV : DotDims.WF ⟨2, ![144, 256 * n]⟩ ⟨2, ![256 * n, 256]⟩ S144x256 [1] [0] [0] [1] [] []
  bc : S1x256.Broadcasts ⟨2, ![256 * n, 256]⟩

/-- Groups of one to four blocks have them. -/
theorem group (n : Nat) (h1 : 1 ≤ n) (h4 : n ≤ 4) : Group n := by
  obtain rfl | rfl | rfl | rfl : n = 1 ∨ n = 2 ∨ n = 3 ∨ n = 4 := by omega
  all_goals exact ⟨by decide, by decide, by decide, by decide, by decide, by decide, by decide, by decide, by decide, by decide⟩

/-- Row `m` of the gates is one row of sixteen. -/
theorem slices_row (m : Nat) (h : m < 16) : S16x256.Slices ![m, 0] S1x256 := by
  revert m; decide

/-- Block `r` of a group's scores. -/
theorem slices_block (n r : Nat) (h : r < n) : (⟨2, ![256 * n, 256]⟩ : Shape).Slices ![256 * r, 0] S256x256 := by
  refine ⟨rfl, fun a => ?_⟩
  fin_cases a
  · show 256 * r + 256 ≤ 256 * n
    omega
  · show 0 + 256 ≤ 256
    omega

/-- Where a score block lies in its buffer. -/
theorem inb_block (j : Nat) (h : j < 16) : ∀ a, (![256 * j, 0] : Fin 2 → Nat) a + S256x256.size a ≤ S4096x256.size a := by
  intro a
  fin_cases a
  · show 256 * j + 256 ≤ 4096
    omega
  · show 0 + 256 ≤ 256
    omega

/-- Where the rows of a group lie in a score buffer. -/
theorem inb_rows (w n j : Nat) (h : j + n ≤ 16) :
    ∀ a, (![256 * j, 0] : Fin 2 → Nat) a + (![256 * n, w] : Fin 2 → Nat) a ≤ (![4096, w] : Fin 2 → Nat) a := by
  intro a
  fin_cases a
  · show 256 * j + 256 * n ≤ 4096
    omega
  · show 0 + w ≤ w
    omega

/-- Where the key rows of a group lie. -/
theorem inb_keys (n j : Nat) (h : j + n ≤ 16) :
    ∀ a, (![0, 0, 256 * j, 0] : Fin 4 → Nat) a + (![1, 1, 256 * n, 128] : Fin 4 → Nat) a ≤ S1x1x4096x128.size a := by
  intro a
  fin_cases a
  · show 0 + 1 ≤ 1
    omega
  · show 0 + 1 ≤ 1
    omega
  · show 256 * j + 256 * n ≤ 4096
    omega
  · show 0 + 128 ≤ 128
    omega

/-- Where the value columns of a group lie. -/
theorem inb_vals (n j : Nat) (h : j + n ≤ 16) :
    ∀ a, (![0, 0, 0, 256 * j] : Fin 4 → Nat) a + (![1, 1, 128, 256 * n] : Fin 4 → Nat) a ≤ S1x1x128x4096.size a := by
  intro a
  fin_cases a
  · show 0 + 1 ≤ 1
    omega
  · show 0 + 1 ≤ 1
    omega
  · show 0 + 128 ≤ 128
    omega
  · show 256 * j + 256 * n ≤ 4096
    omega

/-- Where the queries of block `c` lie. -/
theorem inb_queries (c : Nat) (h : c < 16) :
    ∀ a, (![0, 0, 256 * c, 0] : Fin 4 → Nat) a + S1x1x256x128.size a ≤ S1x1x4096x128.size a := by
  intro a
  fin_cases a
  · show 0 + 1 ≤ 1
    omega
  · show 0 + 1 ≤ 1
    omega
  · show 256 * c + 256 ≤ 4096
    omega
  · show 0 + 128 ≤ 128
    omega

/-- Where block `c` of the result lies. -/
theorem inb_out (c : Nat) (h : c < 16) :
    ∀ a, (![0, 256 * c, 0] : Fin 3 → Nat) a + S1x256x128.size a ≤ S1x4096x128.size a := by
  intro a
  fin_cases a
  · show 0 + 1 ≤ 1
    omega
  · show 256 * c + 256 ≤ 4096
    omega
  · show 0 + 128 ≤ 128
    omega

variable {F : FTy → Type} [FloatOps F] [Named F]

/-- The buffers of one grid point and what its five inputs hold. -/
structure Point (F : FTy → Type) where
  bq : Memref sig .tc .vmem S1x1x4096x128 .f32
  hq : bq.IsWhole
  bk : Memref sig .tc .vmem S1x1x4096x128 .bf16
  hk : bk.IsWhole
  bv : Memref sig .tc .vmem S1x1x128x4096 .bf16
  hv : bv.IsWhole
  bm : Memref sig .tc .vmem S1x16x128 .f32
  hm : bm.IsWhole
  bo : Memref sig .tc .vmem S4096x128 .bf16
  ho : bo.IsWhole
  s0 : Memref sig .tc .vmem S4096x256 .bf16
  s1 : Memref sig .tc .vmem S4096x256 .bf16
  s2 : Memref sig .tc .vmem S4096x256 .bf16
  s3 : Memref sig .tc .vmem S4096x256 .bf16
  q : Vec F S1x1x4096x128 .f32
  k : Vec F S1x1x4096x128 .bf16
  v : Vec F S1x1x128x4096 .bf16
  m : Vec F S1x16x128 .f32
  o : Vec F S4096x128 .bf16

namespace Point

variable (P : Point F)

/-- The score buffer of query block `c`: the four are taken in turn. -/
def scr (c : Nat) : Memref sig .tc .vmem S4096x256 .bf16 :=
  match c % 4 with
  | 0 => P.s0
  | 1 => P.s1
  | 2 => P.s2
  | _ => P.s3

def loadQ (c : Nat) (h : c < 16) : Vec F S1x1x256x128 .f32 :=
  View.readAt (Elt F) P.bq.view (Rect.unit (s := S1x1x4096x128) ![0, 0, 256 * c, 0] S1x1x256x128.size (inb_queries c h)).toLoadRect (P.hq.unread P.q)

def loadK (n j : Nat) (h : j + n ≤ 16) : Vec F ⟨4, ![1, 1, 256 * n, 128]⟩ .bf16 :=
  View.readAt (Elt F) P.bk.view (Rect.unit (s := S1x1x4096x128) ![0, 0, 256 * j, 0] ![1, 1, 256 * n, 128] (inb_keys n j h)).toLoadRect (P.hk.unread P.k)

def loadV (n j : Nat) (h : j + n ≤ 16) : Vec F ⟨4, ![1, 1, 128, 256 * n]⟩ .bf16 :=
  View.readAt (Elt F) P.bv.view (Rect.unit (s := S1x1x128x4096) ![0, 0, 0, 256 * j] ![1, 1, 128, 256 * n] (inb_vals n j h)).toLoadRect (P.hv.unread P.v)

def loadM : Vec F S1x16x128 .f32 :=
  View.readAt (Elt F) P.bm.view (Rect.unit (s := S1x16x128) ![0, 0, 0] S1x16x128.size inb_S1x16x128_S1x16x128_0_0_0).toLoadRect (P.hm.unread P.m)

def loadO (n j : Nat) (h : j + n ≤ 16) : Vec F ⟨2, ![256 * n, 128]⟩ .bf16 :=
  View.readAt (Elt F) P.bo.view (Rect.unit (s := S4096x128) ![256 * j, 0] ![256 * n, 128] (inb_rows 128 n j h)).toLoadRect (P.ho.unread P.o)

end Point

/-! ## The gates of a block of queries -/

/-- The number of each row of the gates. -/
def rowIds : IVec S16x256 32 := iota .tc S16x256 32 [0] iota_S16x256_d0_w32

/-- Which blocks lie before block `c`. -/
def past (c : Nat) : IVec S16x256 1 := cmpi .slt rowIds (broadcast S16x256 (BitVec.ofNat 32 c))

/-- The products of the block means with the queries, masked from block `c` on. -/
def gates (c : Nat) (km : Vec F S1x16x128 .f32) (x : Vec F S1x1x256x128 .f32) : FVec F S16x256 .f32 :=
  select (past c)
    (matmul dot_S16x128_S256x128_S16x256_1_1_0_0_n_n (some .fp32) (shapeCast S16x128 km shapeCasts_S1x16x128_S16x128)
      (shapeCast S256x128 x shapeCasts_S1x1x256x128_S256x128) (constant S16x256 .f32 0#32))
    (broadcast S16x256 (Named.named κ "mask" 4048155338#32))

/-- One where block `m` goes before the row's block. -/
def before (g : FVec F S16x256 .f32) (m : Nat) (h : m < 16) : IVec S16x256 32 :=
  extui 32
    (ori (cmpf .ogt (broadcastTo S16x256 (extractStridedSlice S1x256 ![m, 0] g (slices_row m h)) broadcasts_S1x256_S16x256) g)
      (andi (cmpf .oeq (broadcastTo S16x256 (extractStridedSlice S1x256 ![m, 0] g (slices_row m h)) broadcasts_S1x256_S16x256) g)
        (cmpi .sgt rowIds (broadcast S16x256 (BitVec.ofNat 32 m)))))
    natLt_1_32

/-- How many of the first `n` blocks go before the row's block. -/
def rank (g : FVec F S16x256 .f32) : (n : Nat) → n ≤ 16 → IVec S16x256 32
  | 0, _ => broadcast S16x256 0#32
  | n + 1, h => addi (rank g n (Nat.le_of_succ_le h)) (before g n h)

/-- The mask of the blocks that the queries do not attend to, zero elsewhere. -/
def bias (c : Nat) (km : Vec F S1x16x128 .f32) (x : Vec F S1x1x256x128 .f32) : FVec F S16x256 .f32 :=
  select (andi (past c) (cmpi .sge (rank (gates c km x) 16 (Nat.le_refl 16)) (broadcast S16x256 3#32)))
    (broadcast S16x256 (Named.named κ "mask" 4048155338#32)) (broadcast S16x256 (FloatOps.ofBits .f32 0#32))

/-- The queries, scaled, beside the bias of every block. -/
def augmented (c : Nat) (km : Vec F S1x16x128 .f32) (x : Vec F S1x1x256x128 .f32) : FVec F S256x256 .bf16 :=
  concatenate S256x256 1
    [⟨S256x128, truncf .bf16 (mulf (shapeCast S256x128 x shapeCasts_S1x1x256x128_S256x128)
        (broadcast S256x128 (Named.named κ "to_log2" 1040356334#32))) bitsLt_bf16_f32⟩,
     ⟨S256x128, truncf .bf16 (transpose S256x128 [1, 0]
        (concatenate S128x256 0 [⟨S16x256, bias c km x⟩, ⟨S112x256, broadcast S112x256 (FloatOps.ofBits .f32 0#32)⟩]
          concatenates_S16x256_S112x256_S128x256_d0) transposes_S128x256_p1_0_S256x128) bitsLt_bf16_f32⟩]
    concatenates_S256x128_S256x128_S256x256_d1

/-! ## The scores -/

/-- The scores of a group of key blocks. -/
def scores (n : Nat) (G : Group n) (k : Vec F ⟨4, ![1, 1, 256 * n, 128]⟩ .bf16) (o : Vec F ⟨2, ![256 * n, 128]⟩ .bf16)
    (qa : FVec F S256x256 .bf16) : FVec F ⟨2, ![256 * n, 256]⟩ .f32 :=
  matmul (⟨[1], [1], [0], [0], [], [], G.dotS⟩ : DotDims ⟨2, ![256 * n, 256]⟩ S256x256 ⟨2, ![256 * n, 256]⟩) none
    (concatenate ⟨2, ![256 * n, 256]⟩ 1 [⟨⟨2, ![256 * n, 128]⟩, shapeCast ⟨2, ![256 * n, 128]⟩ k G.castK⟩,
      ⟨⟨2, ![256 * n, 128]⟩, shapeCast ⟨2, ![256 * n, 128]⟩ o G.castO⟩] G.catK)
    qa (constant ⟨2, ![256 * n, 256]⟩ .f32 0#32)

/-- Block `r` of a group's scores: the group itself where it is one block. -/
def blockOf : (n : Nat) → (r : Nat) → r < n → FVec F ⟨2, ![256 * n, 256]⟩ .f32 → FVec F S256x256 .f32
  | 1, _, _, s => s
  | 0, _, h, _ => absurd h (Nat.not_lt_zero _)
  | n + 2, r, h, s => extractStridedSlice S256x256 ![256 * r, 0] s (slices_block (n + 2) r h)

/-- The keys up to a query's own position. -/
def causal : IVec S256x256 1 :=
  cmpi .sle (iota .tc S256x256 32 [0] iota_S256x256_d0_w32) (iota .tc S256x256 32 [1] iota_S256x256_d1_w32)

/-- How many blocks the group of block `j` has, for query block `c`. -/
def width (c j : Nat) : Nat := if j / 4 < c / 4 then 4 else c % 4 + 1

theorem width_pos (c j : Nat) : 1 ≤ width c j := by
  unfold width; split <;> omega

theorem width_le (c j : Nat) : width c j ≤ 4 := by
  unfold width; split <;> omega

theorem width_fits (c j : Nat) (hc : c < 16) (hj : j ≤ c) : 4 * (j / 4) + width c j ≤ 16 := by
  unfold width; split <;> omega

theorem width_lt (c j : Nat) (hj : j ≤ c) : j % 4 < width c j := by
  unfold width; split <;> omega

variable (P : Point F)

/-- The scaled queries and the bias of query block `c`. -/
def aug (c : Nat) (hc : c < 16) : FVec F S256x256 .bf16 := augmented c P.loadM (P.loadQ c hc)

/-- The scores of key block `j` for query block `c`, the block itself masked causally. -/
def tile (c j : Nat) (hc : c < 16) (hj : j ≤ c) : FVec F S256x256 .f32 :=
  let s := blockOf (width c j) (j % 4) (width_lt c j hj)
    (scores (width c j) (group _ (width_pos c j) (width_le c j)) (P.loadK _ (4 * (j / 4)) (width_fits c j hc hj))
      (P.loadO _ (4 * (j / 4)) (width_fits c j hc hj)) (aug P c hc))
  if j = c then select causal s (broadcast S256x256 (Named.named κ "mask" 4048155338#32)) else s

/-- The stores of the first `j + 1` score blocks of query block `c`, over `L`. -/
def tiles (c : Nat) (hc : c < 16) (L : List (View.Piece (Elt F) S4096x256 .bf16)) : (j : Nat) → j ≤ c → List (View.Piece (Elt F) S4096x256 .bf16)
  | 0, h => ⟨Rect.unit ![256 * 0, 0] S256x256.size (inb_block 0 (by omega)), shapeCast S256x256 (truncf .bf16 (tile P c 0 hc h) bitsLt_bf16_f32) shapeCasts_S256x256_S256x256⟩ :: L
  | j + 1, h => ⟨Rect.unit ![256 * (j + 1), 0] S256x256.size (inb_block (j + 1) (by omega)),
      shapeCast S256x256 (truncf .bf16 (tile P c (j + 1) hc h) bitsLt_bf16_f32) shapeCasts_S256x256_S256x256⟩ :: tiles c hc L j (Nat.le_of_succ_le h)

/-- Every store into the buffer of block `b + 4 * i`, up to that block's. -/
def stores (b : Nat) : (i : Nat) → b + 4 * i < 16 → List (View.Piece (Elt F) S4096x256 .bf16)
  | 0, h => tiles P (b + 4 * 0) h [] (b + 4 * 0) (Nat.le_refl _)
  | i + 1, h => tiles P (b + 4 * (i + 1)) h (stores b i (by omega)) (b + 4 * (i + 1)) (Nat.le_refl _)

/-- The maximum of a score block over its sublane groups. -/
def part (s : FVec F S256x256 .f32) : FVec F S8x256 .f32 :=
  multiReduction .maximumf [0] S8x256 (shapeCast S32x8x256 s shapeCasts_S256x256_S32x8x256) 0xFF800000#32
    reduces_S32x8x256_S8x256 (.inl rfl) rfl

/-- The running maximum over the first `j + 1` blocks. -/
def upTo (c : Nat) (hc : c < 16) : (j : Nat) → j ≤ c → FVec F S8x256 .f32
  | 0, h => part (tile P c 0 hc h)
  | j + 1, h => maximumf (upTo c hc j (Nat.le_of_succ_le h)) (part (tile P c (j + 1) hc h))

/-- The maximum of every score of a query. -/
def top (c : Nat) (hc : c < 16) : FVec F S1x256 .f32 :=
  shapeCast S1x256 (multiReduction .maximumf [0] S256 (upTo P c hc c (Nat.le_refl c)) 0xFF800000#32 reduces_S8x256_S256 (.inl rfl) rfl)
    shapeCasts_S256_S1x256

/-! ## The weighted values -/

/-- The values of a group, and its ones, times the weights. -/
def weighted (n : Nat) (G : Group n) (v : Vec F ⟨4, ![1, 1, 128, 256 * n]⟩ .bf16) (t : FVec F ⟨2, ![256 * n, 256]⟩ .bf16)
    (mx : FVec F S1x256 .f32) : FVec F S144x256 .f32 :=
  matmul (⟨[1], [0], [0], [1], [], [], G.dotV⟩ : DotDims ⟨2, ![144, 256 * n]⟩ ⟨2, ![256 * n, 256]⟩ S144x256) none
    (concatenate ⟨2, ![144, 256 * n]⟩ 0 [⟨⟨2, ![128, 256 * n]⟩, shapeCast ⟨2, ![128, 256 * n]⟩ v G.castV⟩,
      ⟨⟨2, ![16, 256 * n]⟩, broadcast ⟨2, ![16, 256 * n]⟩ (FloatOps.ofBits .bf16 16256#16)⟩] G.catV)
    (exp2 (subf t (broadcastTo ⟨2, ![256 * n, 256]⟩ (truncf .bf16 mx bitsLt_bf16_f32) G.bc)))
    (constant S144x256 .f32 0#32)

/-- What query block `c` reads back of the scores of `n` blocks from block `j`. -/
def back (c n j : Nat) (hc : c < 16) (h : j + n ≤ 16) : FVec F ⟨2, ![256 * n, 256]⟩ .bf16 :=
  (P.scr c).view.readCov (stores P (c % 4) (c / 4) (by omega))
    (Rect.unit (s := S4096x256) ![256 * j, 0] ![256 * n, 256] (inb_rows 256 n j h)).toLoadRect

/-- The weighted values of the first `g + 1` whole groups. -/
def wholes (c : Nat) (hc : c < 16) : (g : Nat) → g < c / 4 → FVec F S144x256 .f32
  | 0, h => weighted 4 (group 4 (by omega) (by omega)) (P.loadV 4 (4 * 0) (by omega)) (back P c 4 (4 * 0) hc (by omega)) (top P c hc)
  | g + 1, h => addf (wholes c hc g (Nat.lt_of_succ_lt h))
      (weighted 4 (group 4 (by omega) (by omega)) (P.loadV 4 (4 * (g + 1)) (by omega)) (back P c 4 (4 * (g + 1)) hc (by omega)) (top P c hc))

/-- The weighted values of the last group. -/
def lasts (c : Nat) (hc : c < 16) : FVec F S144x256 .f32 :=
  weighted (c % 4 + 1) (group _ (by omega) (by omega)) (P.loadV (c % 4 + 1) (4 * (c / 4)) (by omega))
    (back P c (c % 4 + 1) (4 * (c / 4)) hc (by omega)) (top P c hc)

/-- The weighted values of every group but the last, and the last's. -/
def total (c : Nat) (hc : c < 16) : (g : Nat) → g ≤ c / 4 → FVec F S144x256 .f32
  | 0, _ => lasts P c hc
  | g + 1, h => addf (wholes P c hc g h) (lasts P c hc)

/-- The quotient of the weighted values by the weights' sum, one row per query. -/
def quotient (acc : FVec F S144x256 .f32) : FVec F S1x256x128 .bf16 :=
  shapeCast S1x256x128 (truncf .bf16 (transpose S256x128 [1, 0]
    (mulf (extractStridedSlice S128x256 ![0, 0] acc slices_S144x256_o0_0_S128x256)
      (broadcastTo S128x256 (divf (broadcast S1x256 (FloatOps.ofBits .f32 1065353216#32))
        (extractStridedSlice S1x256 ![128, 0] acc slices_S144x256_o128_0_S1x256)) broadcasts_S1x256_S128x256))
    transposes_S128x256_p1_0_S256x128) bitsLt_bf16_f32) shapeCasts_S256x128_S1x256x128

/-- What query block `c` stores. -/
def result (c : Nat) (hc : c < 16) : FVec F S1x256x128 .bf16 := quotient (total P c hc (c / 4) (Nat.le_refl _))

/-- The stores of the first `c + 1` query blocks. -/
def results : (c : Nat) → c < 16 → List (View.Piece (Elt F) S1x4096x128 .bf16)
  | 0, h => [⟨Rect.unit ![0, 256 * 0, 0] S1x256x128.size (inb_out 0 h), result P 0 h⟩]
  | c + 1, h => ⟨Rect.unit ![0, 256 * (c + 1), 0] S1x256x128.size (inb_out (c + 1) h), result P (c + 1) h⟩ :: results c (Nat.lt_of_succ_lt h)

end Cert.MobaTower
-- ==== Proof.Moba.Read.lean ====
/- What the vector functions of `Moba.Tower` are at an index, over the extended reals. -/
module

public import proofs.«01_k».proof.Proof.Moba.Tower
public import proofs.«01_k».proof.Proof.Moba.Choice
public import Idealize.ShloMosaic.Lib.Pointwise
public import Idealize.ShloMosaic.Lib.Pipeline.ValueKit

@[expose] public section

set_option maxRecDepth 16384

noncomputable section

namespace Cert.MobaTower

open Idealize.ShloMosaic Cert.MobaIdeal Cert.MobaIdeal.Gen Cert.MobaMath

/-- The mask is minus infinity. -/
theorem mask_eq : (Named.named κ "mask" 4048155338#32 : Ideal .f32) = (⊥ : EReal) := by
  first | rfl | simp [Named.named, κ]

/-- The scale of the scores is `1/√128`, over `log 2`. -/
theorem scale_eq : (Named.named κ "to_log2" 1040356334#32 : Ideal .f32) = ((((Real.sqrt 128)⁻¹ * (Real.log 2)⁻¹ : ℝ)) : EReal) := by
  first | rfl | simp [Named.named, κ]

/-- The neutral element of the maximum. -/
theorem lowest_eq : Ideal.ofBits .f32 4286578688#32 = (⊥ : EReal) := by
  first | rfl | simp [Ideal.ofBits] | decide

/-- A comparison of two small words. -/
theorem slt_small (a b : Nat) (ha : a < 16) (hb : b < 17) :
    IntOp.cmpi .slt (BitVec.ofNat 32 a) (BitVec.ofNat 32 b) = BitVec.ofBool (decide (a < b)) := by
  have e : ∀ a < 16, ∀ b < 17, IntOp.cmpi .slt (BitVec.ofNat 32 a) (BitVec.ofNat 32 b) = BitVec.ofBool (decide (a < b)) := by
    decide +kernel
  exact e a ha b hb

/-- A choice by a decided bit. -/
theorem select_ofBool (p : Prop) [Decidable p] (a b : EReal) : Scalar.select (BitVec.ofBool (decide p)) a b = if p then a else b := by
  by_cases h : p <;> simp [h, Scalar.select]

/-- One product of a block's mean with a query, masked from block `c` on. -/
theorem gates_apply (c : Nat) (hc : c < 16) (km : Vec Ideal S1x16x128 .f32) (x : Vec Ideal S1x1x256x128 .f32) (j : Fin 16) (q : Fin 256) :
    gates c km x (ix2 j q) = if j.val < c then ∑ d : Fin 128, km (ix3 0 j d) * x (ix4 0 0 q d) else ⊥ := by
  unfold gates past rowIds
  pointwise
  rw [slt_small _ _ j.isLt (by omega), select_ofBool, mask_eq]

/-- One where block `m` goes before block `j`: its gate is greater, or equal and its number smaller. -/
theorem before_apply (g : FVec Ideal S16x256 .f32) (m : Nat) (h : m < 16) (j : Fin 16) (q : Fin 256) :
    before g m h (ix2 j q) = if g (ix2 j q) < g (ix2 ⟨m, h⟩ q) ∨ (g (ix2 ⟨m, h⟩ q) = g (ix2 j q) ∧ m < j.val) then 1#32 else 0#32 := by
  unfold before rowIds
  pointwise
  have e : IntOp.cmpi .sgt (BitVec.ofNat 32 j.val) (BitVec.ofNat 32 m) = BitVec.ofBool (decide (m < j.val)) := by
    revert m; revert j; decide
  rw [e]
  by_cases h1 : g (ix2 j q) < g (ix2 ⟨m, h⟩ q) <;> by_cases h2 : g (ix2 ⟨m, h⟩ q) = g (ix2 j q) <;> by_cases h3 : m < j.val <;>
    simp [h1, h2, h3, IntOp.ori, IntOp.andi]

open Classical in
/-- The count that the body keeps in words is the count. -/
theorem rank_apply (g : FVec Ideal S16x256 .f32) (n : Nat) (h : n ≤ 16) (j : Fin 16) (q : Fin 256) :
    rank g n h (ix2 j q)
      = BitVec.ofNat 32 (∑ m ∈ Finset.range n, if hm : m < 16 then if Ahead (fun i => g (ix2 i q)) ⟨m, hm⟩ j then 1 else 0 else 0) := by
  induction n with
  | zero => rfl
  | succ n ih =>
    have e : rank g (n + 1) h (ix2 j q) = rank g n (Nat.le_of_succ_le h) (ix2 j q) + before g n h (ix2 j q) := rfl
    rw [e, ih, before_apply, Finset.sum_range_succ, BitVec.ofNat_add, dif_pos (show n < 16 from h)]
    congr 1
    by_cases hp : Ahead (fun i => g (ix2 i q)) ⟨n, h⟩ j
    · rw [if_pos hp]
      exact if_pos hp
    · rw [if_neg hp]
      exact if_neg hp

/-- The count over the sixteen blocks. -/
theorem rank_all (g : FVec Ideal S16x256 .f32) (j : Fin 16) (q : Fin 256) :
    rank g 16 (Nat.le_refl 16) (ix2 j q) = BitVec.ofNat 32 (place (fun i => g (ix2 i q)) j) := by
  classical
  rw [rank_apply, Finset.sum_range]
  unfold place
  refine congrArg (BitVec.ofNat 32) (Finset.sum_congr rfl fun m _ => ?_)
  rw [dif_pos m.isLt]

/-- The bias: minus infinity at the earlier blocks that three others go before. -/
theorem bias_apply (c : Nat) (hc : c < 16) (km : Vec Ideal S1x16x128 .f32) (x : Vec Ideal S1x1x256x128 .f32) (j : Fin 16) (q : Fin 256) :
    bias c km x (ix2 j q) = if j.val < c ∧ 3 ≤ place (fun i => gates c km x (ix2 i q)) j then ⊥ else 0 := by
  have e : bias c km x (ix2 j q)
      = Scalar.select (IntOp.andi (IntOp.cmpi .slt (BitVec.ofNat 32 j.val) (BitVec.ofNat 32 c))
          (IntOp.cmpi .sge (rank (gates c km x) 16 (Nat.le_refl 16) (ix2 j q)) 3#32))
        (Named.named κ "mask" 4048155338#32 : Ideal .f32) (FloatOps.ofBits .f32 0#32) := by
    unfold bias past rowIds
    pointwise
  have e3 : ∀ r < 17, IntOp.cmpi .sge (BitVec.ofNat 32 r) 3#32 = BitVec.ofBool (decide (3 ≤ r)) := by decide +kernel
  have z : (FloatOps.ofBits .f32 0#32 : Ideal .f32) = (0 : EReal) := by
    show Ideal.ofBits .f32 0#32 = 0
    pointwise
  rw [e, rank_all, slt_small _ _ j.isLt (by omega), e3 _ (Nat.lt_succ_of_le (place_le _ j)), mask_eq, z]
  by_cases h1 : j.val < c <;> by_cases h2 : 3 ≤ place (fun i => gates c km x (ix2 i q)) j <;>
    simp [h1, h2, IntOp.andi, Scalar.select]

/-- The first half of the augmented queries: the queries, scaled. -/
theorem augmented_low (c : Nat) (km : Vec Ideal S1x16x128 .f32) (x : Vec Ideal S1x1x256x128 .f32) (q : Fin 256) (e : Fin 128) :
    augmented c km x (ix2 q ⟨e.val, by omega⟩) = x (ix4 0 0 q e) * (((Real.sqrt 128)⁻¹ * (Real.log 2)⁻¹ : ℝ) : EReal) := by
  unfold augmented
  pointwise
  rw [scale_eq]

/-- The second half of the augmented queries: the bias of every block, then zeros. -/
theorem augmented_high (c : Nat) (km : Vec Ideal S1x16x128 .f32) (x : Vec Ideal S1x1x256x128 .f32) (q : Fin 256) (e : Fin 128) :
    augmented c km x (ix2 q ⟨128 + e.val, by omega⟩) = if h : e.val < 16 then bias c km x (ix2 ⟨e.val, h⟩ q) else 0 := by
  unfold augmented
  pointwise

/-- A score: the product over the head's dimensions, and the bias picked by the key's block. -/
theorem scores_apply (n : Nat) (G : Group n) (k : Vec Ideal ⟨4, ![1, 1, 256 * n, 128]⟩ .bf16) (o : Vec Ideal ⟨2, ![256 * n, 128]⟩ .bf16)
    (qa : FVec Ideal S256x256 .bf16) (r : Fin (256 * n)) (q : Fin 256) :
    scores n G k o qa (ix2 r q) = (∑ e : Fin 128, k (ix4 0 0 r e) * qa (ix2 q ⟨e.val, by omega⟩))
      + ∑ e : Fin 128, o (ix2 r e) * qa (ix2 q ⟨128 + e.val, by omega⟩) := by
  have h1 := G.pos
  have h4 := G.le
  obtain rfl | rfl | rfl | rfl : n = 1 ∨ n = 2 ∨ n = 3 ∨ n = 4 := by omega
  all_goals
    unfold scores
    pointwise

/-- The maximum over the sublane groups. -/
theorem part_apply (s : FVec Ideal S256x256 .f32) (a : Fin 8) (q : Fin 256) :
    part s (ix2 a q) = Finset.univ.sup fun b : Fin 32 => s (ix2 ⟨b.val * 8 + a.val, by omega⟩ q) := by
  unfold part
  pointwise
  rw [lowest_eq]
  rfl

/-- The values of a group, or ones, summed with the weights. -/
theorem weighted_apply (n : Nat) (G : Group n) (v : Vec Ideal ⟨4, ![1, 1, 128, 256 * n]⟩ .bf16) (t : FVec Ideal ⟨2, ![256 * n, 256]⟩ .bf16)
    (mx : FVec Ideal S1x256 .f32) (d : Fin 144) (q : Fin 256) :
    weighted n G v t mx (ix2 d q) = ∑ k : Fin (256 * n), (if h : d.val < 128 then v (ix4 0 0 ⟨d.val, h⟩ k) else 1) * Ideal.exp2 (t (ix2 k q) - mx (ix2 0 q)) := by
  have h1 := G.pos
  have h4 := G.le
  obtain rfl | rfl | rfl | rfl : n = 1 ∨ n = 2 ∨ n = 3 ∨ n = 4 := by omega
  all_goals
    unfold weighted
    pointwise
    rfl

/-- The quotient of a row of the weighted values by the row of the ones. -/
theorem quotient_apply (acc : FVec Ideal S144x256 .f32) (q : Fin 256) (d : Fin 128) :
    quotient acc (ix3 0 q d) = acc (ix2 ⟨d.val, by omega⟩ q) * Ideal.div 1 (acc (ix2 128 q)) := by
  unfold quotient
  pointwise

end Cert.MobaTower
-- ==== Proof.Moba.RefRead.lean ====
/- The steps of the reference's attention at an index: its operands, gates and choice of blocks. -/
module

public import proofs.«01_k».proof.Proof.Moba.Stages
public import proofs.«01_k».proof.Proof.Moba.Top
public import proofs.«01_k».proof.Proof.Moba.Read

@[expose] public section

set_option maxRecDepth 16384

noncomputable section

namespace Cert.MobaRef

open Idealize.ShloMosaic Idealize.ShloMosaic.TcCoe Cert.MobaRefIdeal Cert.MobaRefIdeal.Gen Cert.MobaMath
open Cert.MobaTower (lowest_eq slt_small select_ofBool)

variable (Q : FVec Ideal S8x8x4096x128 .f32) (K : FVec Ideal S8x8x4096x128 .bf16) (W : FVec Ideal S8x8x128x4096 .bf16)
  (M : FVec Ideal S8x16x1024 .f32)

/-- Query `q` of block `c`. -/
def queryOf (b h : Fin 8) (c : Fin 16) (q : Fin 256) (d : Fin 128) : EReal :=
  Q (ix4 (n0 := 8) (n1 := 8) (n2 := 4096) (n3 := 128) b h ⟨256 * c.val + q.val, by omega⟩ d)

/-- Key `i` of block `j`. -/
def keyOf (b h : Fin 8) (j : Fin 16) (i : Fin 256) (d : Fin 128) : EReal :=
  K (ix4 (n0 := 8) (n1 := 8) (n2 := 4096) (n3 := 128) b h ⟨256 * j.val + i.val, by omega⟩ d)

/-- Value `i` of block `j`. -/
def valueOf (b h : Fin 8) (d : Fin 128) (j : Fin 16) (i : Fin 256) : EReal :=
  W (ix4 (n0 := 8) (n1 := 8) (n2 := 128) (n3 := 4096) b h d ⟨256 * j.val + i.val, by omega⟩)

/-- The mean of block `j`. -/
def meanOf (b h : Fin 8) (j : Fin 16) (d : Fin 128) : EReal :=
  M (ix3 (n0 := 8) (n1 := 16) (n2 := 1024) b j ⟨128 * h.val + d.val, by omega⟩)

theorem queries_apply (b h : Fin 8) (c : Fin 16) (q : Fin 256) (d : Fin 128) : queries Q (ix5 b h c q d) = queryOf Q b h c q d := by
  unfold queries queryOf
  pointwise
  exact congrArg (fun z : Fin 4096 => Q (ix4 b h z d)) (Fin.ext (by show c.val * 256 + q.val = 256 * c.val + q.val; omega))

theorem keys_apply (b h : Fin 8) (c : Fin 16) (q : Fin 256) (d : Fin 128) : keys K (ix5 b h c q d) = keyOf K b h c q d := by
  unfold keys keyOf
  pointwise
  exact congrArg (fun z : Fin 4096 => K (ix4 b h z d)) (Fin.ext (by show c.val * 256 + q.val = 256 * c.val + q.val; omega))

theorem vals_apply (b h : Fin 8) (c : Fin 16) (q : Fin 256) (d : Fin 128) : vals W (ix5 b h c q d) = valueOf W b h d c q := by
  unfold vals valueOf
  pointwise
  exact congrArg (fun z : Fin 4096 => W (ix4 b h d z)) (Fin.ext (by show c.val * 256 + q.val = 256 * c.val + q.val; omega))

theorem means_apply (b h : Fin 8) (j : Fin 16) (d : Fin 128) : means M (ix4 b j h d) = meanOf M b h j d := by
  unfold means meanOf
  pointwise
  exact congrArg (fun z : Fin 1024 => M (ix3 b j z)) (Fin.ext (by show h.val * 128 + d.val = 128 * h.val + d.val; omega))

/-- The scale of the reference's scores. -/
def scale1 : EReal := (((Real.sqrt 128)⁻¹ : ℝ) : EReal)

theorem scale_apply : scale ix0 = scale1 := by
  unfold scale scale1
  pointwise
  have e : Ideal.ofBits FTy.f32 1124073472#32 = ((128 : ℝ) : EReal) := by
    simp [Ideal.ofBits, Ideal.ieee]
    rw [← EReal.coe_mul]
    norm_num
  have es : Ideal.sqrt ((128 : ℝ) : EReal) = ((Real.sqrt 128 : ℝ) : EReal) := by
    show (if (128 : ℝ) < 0 then ⊥ else ((Real.sqrt 128 : ℝ) : EReal)) = _
    rw [if_neg (by norm_num)]
  have hp : (0 : ℝ) < Real.sqrt 128 := Real.sqrt_pos.mpr (by norm_num)
  rw [e, es]
  unfold Ideal.div
  rw [if_neg (by exact_mod_cast hp.ne'), one_mul, EReal.coe_inv]

theorem gates_apply (b h : Fin 8) (c : Fin 16) (q : Fin 256) (j : Fin 16) :
    gates Q M (ix5 b h c q j) = gate c.val (meanOf M b h) (queryOf Q b h c q) j := by
  unfold gates past qblk gate
  pointwise
  simp only [queries_apply, means_apply]
  rw [slt_small _ _ j.isLt (by omega), select_ofBool]
  refine if_congr Iff.rfl (Finset.sum_congr rfl fun d _ => mul_comm _ _) ?_
  show Ideal.ofBits .f32 4286578688#32 = ⊥
  exact lowest_eq

/-- The number of the block at position `s` of the sorted gates. -/
def pickOf (b h : Fin 8) (c : Fin 16) (q : Fin 256) (s : Fin 3) : Fin 16 :=
  blockAt (gate c.val (meanOf M b h) (queryOf Q b h c q)) ⟨s.val, by omega⟩

theorem along_last (b h : Fin 8) (c : Fin 16) (q : Fin 256) (t k : Fin 16) :
    Shape.Idx.along (s := S8x8x16x256x16) (ix5 b h c q t) 4 k = ix5 b h c q k := by
  unfold Shape.Idx.along
  funext a
  match a with
  | 0 => exact Function.update_of_ne (by decide) _ _
  | 1 => exact Function.update_of_ne (by decide) _ _
  | 2 => exact Function.update_of_ne (by decide) _ _
  | 3 => exact Function.update_of_ne (by decide) _ _
  | 4 => exact Function.update_self _ _ _

/-- The number that the sort by the first of two arrays puts at position `t` of a row. -/
theorem sorted_row (x : FVec Ideal S8x8x16x256x16 .f32) (y : IVec S8x8x16x256x16 32) (b h : Fin 8) (c : Fin 16) (q : Fin 256) (t : Fin 16) :
    (Host.sort2 S8x8x16x256x16 4 (fun l r => FloatOps.cmpfTotal (F := Ideal) (φ := .f32) .gt l.1 r.1) x y).2 (ix5 b h c q t)
      = y (ix5 b h c q (blockAt (fun k => x (ix5 b h c q k)) t)) := by
  have e : ∀ f : Fin 16 → S8x8x16x256x16.Idx, (∀ k : Fin 16, Shape.Idx.along (s := S8x8x16x256x16) (ix5 b h c q t) 4 k = f k) →
      (Host.sort2 S8x8x16x256x16 4 (fun l r => FloatOps.cmpfTotal (F := Ideal) (φ := .f32) .gt l.1 r.1) x y).2 (ix5 b h c q t)
        = y (f (sortedFrom (greater fun k => x (f k)) t)) := by
    intro f hf
    obtain rfl : (fun k : Fin 16 => Shape.Idx.along (s := S8x8x16x256x16) (ix5 b h c q t) 4 k) = f := funext hf
    unfold Host.sort2
    rw [dif_pos (show (4 : Nat) < S8x8x16x256x16.rank by decide)]
    rfl
  rw [e _ (along_last b h c q t), blockAt_def]

theorem indices_apply (b h : Fin 8) (c : Fin 16) (q : Fin 256) (s : Fin 3) :
    indices Q M (ix5 b h c q s) = BitVec.ofNat 32 (pickOf Q M b h c q s).val := by
  have hg : gate c.val (meanOf M b h) (queryOf Q b h c q) = fun j => gates Q M (ix5 b h c q j) :=
    funext fun j => (gates_apply Q M b h c q j).symm
  unfold pickOf
  rw [hg]
  unfold indices Host.topK
  dsimp only
  have hs : extractStridedSlice S8x8x16x256x3 (fun _ => 0) (Host.sort2 S8x8x16x256x16 4
      (fun l r => FloatOps.cmpfTotal (F := Ideal) (φ := .f32) .gt l.1 r.1) (gates Q M)
      (fun i => if hd : 4 < S8x8x16x256x16.rank then iotaInDim S8x8x16x256x16 32 ⟨4, hd⟩ i else 0#32)).2
      sliceFits_S8x8x16x256x16_S8x8x16x256x3 (ix5 b h c q s)
      = (Host.sort2 S8x8x16x256x16 4
      (fun l r => FloatOps.cmpfTotal (F := Ideal) (φ := .f32) .gt l.1 r.1) (gates Q M)
      (fun i => if hd : 4 < S8x8x16x256x16.rank then iotaInDim S8x8x16x256x16 32 ⟨4, hd⟩ i else 0#32)).2 (ix5 b h c q ⟨s.val, by omega⟩) := by
    unfold extractStridedSlice
    refine congrArg _ (funext fun a => Fin.ext ?_)
    match a with
    | 0 => exact Nat.zero_add _
    | 1 => exact Nat.zero_add _
    | 2 => exact Nat.zero_add _
    | 3 => exact Nat.zero_add _
    | 4 => exact Nat.zero_add _
  refine hs.trans ((sorted_row _ _ b h c q _).trans ?_)
  rw [dif_pos (by decide)]
  rfl

section
variable (X : IVec S8x8x16x256x3 32) (N : Fin 8 → Fin 8 → Fin 16 → Fin 256 → Fin 3 → Fin 16)

theorem valid_apply (hX : ∀ b h c q s, X (ix5 b h c q s) = BitVec.ofNat 32 (N b h c q s).val)
    (b h : Fin 8) (c : Fin 16) (q : Fin 256) (s : Fin 3) :
    valid X (ix5 b h c q s) = BitVec.ofBool (decide ((N b h c q s).val < c.val)) := by
  unfold valid qblk
  pointwise
  rw [hX, slt_small _ _ (N b h c q s).isLt (by omega)]

theorem batchNo_apply (b : Fin 8) : batchNo (ix5 b 0 0 0 0) = BitVec.ofNat 32 b.val := by
  unfold batchNo
  pointwise
  revert b
  decide +kernel

theorem headNo_apply (b : Fin 8) : headNo (ix5 0 b 0 0 0) = BitVec.ofNat 32 b.val := by
  unfold headNo
  pointwise
  revert b
  decide +kernel

theorem word_small : ∀ n : Fin 16, Scalar.select (IntOp.cmpi .slt (BitVec.ofNat 32 n.val) 0#32) (IntOp.addi (BitVec.ofNat 32 n.val) 16#32)
    (BitVec.ofNat 32 n.val) = BitVec.ofNat 32 n.val := by
  decide +kernel

theorem blockNo_apply (hX : ∀ b h c q s, X (ix5 b h c q s) = BitVec.ofNat 32 (N b h c q s).val)
    (b h : Fin 8) (c : Fin 16) (q : Fin 256) (s : Fin 3) : blockNo X (ix5 b h c q s) = BitVec.ofNat 32 (N b h c q s).val := by
  unfold blockNo
  pointwise
  rw [hX]
  exact word_small _

theorem starts_apply (hX : ∀ b h c q s, X (ix5 b h c q s) = BitVec.ofNat 32 (N b h c q s).val)
    (b h : Fin 8) (c : Fin 16) (q : Fin 256) (s : Fin 3) :
    starts X (ix6 b h c q s 0) = BitVec.ofNat 32 b.val ∧ starts X (ix6 b h c q s 1) = BitVec.ofNat 32 h.val
      ∧ starts X (ix6 b h c q s 2) = BitVec.ofNat 32 (N b h c q s).val := by
  unfold starts
  refine ⟨?_, ?_, ?_⟩ <;> pointwise
  · exact batchNo_apply b
  · exact headNo_apply h
  · exact blockNo_apply X N hX b h c q s

theorem gathered_apply (hX : ∀ b h c q s, X (ix5 b h c q s) = BitVec.ofNat 32 (N b h c q s).val) (A : FVec Ideal S8x8x16x256x128 .f32)
    (b h : Fin 8) (c : Fin 16) (q : Fin 256) (s : Fin 3) (i : Fin 256) (d : Fin 128) (j : S8x8x16x256x3x256x128.Idx)
    (h0 : j 0 = b) (h1 : j 1 = h) (h2 : j 2 = c) (h3 : j 3 = q) (h4 : j 4 = s) (h5 : j 5 = i) (h6 : j 6 = d) :
    gathered X A j = A (ix5 b h (N b h c q s) i d) := by
  obtain ⟨s0, s1, s2⟩ := starts_apply X N hX b h c q s
  unfold gathered Host.gather
  refine congrArg A (funext fun a => ?_)
  refine Fin.ext ?_
  unfold GatherDims.operandIdx
  have hb : ∀ n : Fin 8, min (BitVec.ofNat 32 n.val).toInt.toNat 7 = n.val := by decide
  have hN : ∀ n : Fin 16, min (BitVec.ofNat 32 n.val).toInt.toNat 15 = n.val := by decide
  have si : ∀ e : Fin 3, gather_S8x8x16x256x128_S8x8x16x256x3x3_S8x8x16x256x3x256x128_56_012_n_n_012_5_111256128.siIdx j e = ix6 b h c q s e := by
    intro e
    funext a
    match a with
    | 0 => exact h0
    | 1 => exact h1
    | 2 => exact h2
    | 3 => exact h3
    | 4 => exact h4
    | 5 => rfl
  have st0 : gather_S8x8x16x256x128_S8x8x16x256x3x3_S8x8x16x256x3x256x128_56_012_n_n_012_5_111256128.start j (starts X) 0 = min (starts X (gather_S8x8x16x256x128_S8x8x16x256x3x3_S8x8x16x256x3x256x128_56_012_n_n_012_5_111256128.siIdx j (0 : Fin 3))).toInt.toNat 7 := rfl
  have st1 : gather_S8x8x16x256x128_S8x8x16x256x3x3_S8x8x16x256x3x256x128_56_012_n_n_012_5_111256128.start j (starts X) 1 = min (starts X (gather_S8x8x16x256x128_S8x8x16x256x3x3_S8x8x16x256x3x256x128_56_012_n_n_012_5_111256128.siIdx j (1 : Fin 3))).toInt.toNat 7 := rfl
  have st2 : gather_S8x8x16x256x128_S8x8x16x256x3x3_S8x8x16x256x3x256x128_56_012_n_n_012_5_111256128.start j (starts X) 2 = min (starts X (gather_S8x8x16x256x128_S8x8x16x256x3x3_S8x8x16x256x3x256x128_56_012_n_n_012_5_111256128.siIdx j (2 : Fin 3))).toInt.toNat 15 := rfl
  match a with
  | 0 =>
    refine (congrArg (fun z => z + 0 + 0) st0).trans ?_
    rw [si, s0, hb]
    rfl
  | 1 =>
    refine (congrArg (fun z => z + 0 + 0) st1).trans ?_
    rw [si, s1, hb]
    rfl
  | 2 =>
    refine (congrArg (fun z => z + 0 + 0) st2).trans ?_
    rw [si, s2, hN]
    rfl
  | 3 => exact (Nat.zero_add _).trans (congrArg Fin.val h5)
  | 4 => exact (Nat.zero_add _).trans (congrArg Fin.val h6)

end

end Cert.MobaRef
-- ==== Proof.Moba.RefScores.lean ====
/- The scores and weights of the reference's attention at an index, and its result. -/
module

public import proofs.«01_k».proof.Proof.Moba.RefRead

@[expose] public section

set_option maxRecDepth 16384

noncomputable section

namespace Cert.MobaRef

open Idealize.ShloMosaic Idealize.ShloMosaic.TcCoe Cert.MobaRefIdeal Cert.MobaRefIdeal.Gen Cert.MobaMath
open Cert.MobaTower (lowest_eq slt_small select_ofBool)

variable (Q : FVec Ideal S8x8x4096x128 .f32) (K : FVec Ideal S8x8x4096x128 .bf16) (W : FVec Ideal S8x8x128x4096 .bf16)
  (M : FVec Ideal S8x16x1024 .f32)

section
variable (X : IVec S8x8x16x256x3 32) (N : Fin 8 → Fin 8 → Fin 16 → Fin 256 → Fin 3 → Fin 16)

theorem chosen_product (hX : ∀ b h c q s, X (ix5 b h c q s) = BitVec.ofNat 32 (N b h c q s).val)
    (b h : Fin 8) (c : Fin 16) (q : Fin 256) (s : Fin 3) (i : Fin 256) :
    (Host.dotGeneral dot_S8x8x16x256x128_S8x8x16x256x3x256x128_S8x8x16x256x3x256_4_6_n_45_0123_0123 none (queries Q)
      (gathered X (keys K)) : FVec Ideal S8x8x16x256x3x256 .f32) (ix6 b h c q s i)
      = ∑ d : Fin 128, queryOf Q b h c q d * keyOf K b h (N b h c q s) i d := by
  pointwise
  refine Finset.sum_congr rfl fun d _ => ?_
  rw [queries_apply, gathered_apply X N hX (keys K) b h c q s i d _ rfl rfl rfl rfl rfl rfl rfl, keys_apply]

theorem chosenScores_apply (hX : ∀ b h c q s, X (ix5 b h c q s) = BitVec.ofNat 32 (N b h c q s).val)
    (b h : Fin 8) (c : Fin 16) (q : Fin 256) (s : Fin 3) (i : Fin 256) :
    chosenScores Q K X (ix6 b h c q s i)
      = if (N b h c q s).val < c.val then (∑ d : Fin 128, queryOf Q b h c q d * keyOf K b h (N b h c q s) i d) * scale1 else ⊥ := by
  have hp := chosen_product Q K X N hX b h c q s i
  unfold chosenScores
  generalize (Host.dotGeneral dot_S8x8x16x256x128_S8x8x16x256x3x256x128_S8x8x16x256x3x256_4_6_n_45_0123_0123 none (queries Q)
      (gathered X (keys K)) : FVec Ideal S8x8x16x256x3x256 .f32) = D at hp ⊢
  pointwise
  rw [hp, valid_apply X N hX, scale_apply, select_ofBool]
  refine if_congr Iff.rfl rfl ?_
  show Ideal.ofBits .f32 4286578688#32 = ⊥
  exact lowest_eq

theorem sle_small (i q : Fin 256) : IntOp.cmpi .sle (BitVec.ofNat 32 i.val) (BitVec.ofNat 32 q.val) = BitVec.ofBool (decide (i.val ≤ q.val)) := by
  have hi : (BitVec.ofNat 32 i.val).toInt = i.val := by
    rw [BitVec.toInt_eq_toNat_of_lt] <;> rw [BitVec.toNat_ofNat, Nat.mod_eq_of_lt] <;> omega
  have hq : (BitVec.ofNat 32 q.val).toInt = q.val := by
    rw [BitVec.toInt_eq_toNat_of_lt] <;> rw [BitVec.toNat_ofNat, Nat.mod_eq_of_lt] <;> omega
  show BitVec.ofBool (BitVec.sle (BitVec.ofNat 32 i.val) (BitVec.ofNat 32 q.val)) = _
  unfold BitVec.sle
  rw [hi, hq]
  simp only [Nat.cast_le]

theorem ownScores_apply (b h : Fin 8) (c : Fin 16) (q : Fin 256) (i : Fin 256) :
    ownScores Q K (ix5 b h c q i)
      = if i.val ≤ q.val then (∑ d : Fin 128, queryOf Q b h c q d * keyOf K b h c i d) * scale1 else ⊥ := by
  unfold ownScores
  pointwise
  rw [sle_small, select_ofBool, scale_apply]
  simp only [queries_apply, keys_apply]
  refine if_congr Iff.rfl rfl ?_
  show Ideal.ofBits .f32 4286578688#32 = ⊥
  exact lowest_eq

theorem allScores_chosen (b h : Fin 8) (c : Fin 16) (q : Fin 256) (s : Fin 3) (i : Fin 256) :
    allScores Q K X (ix5 (n0 := 8) (n1 := 8) (n2 := 16) (n3 := 256) (n4 := 1024) b h c q ⟨256 * s.val + i.val, by omega⟩)
      = chosenScores Q K X (ix6 b h c q s i) := by
  unfold allScores
  pointwise
  exact dif_pos (by omega)

theorem allScores_own (b h : Fin 8) (c : Fin 16) (q : Fin 256) (i : Fin 256) :
    allScores Q K X (ix5 (n0 := 8) (n1 := 8) (n2 := 16) (n3 := 256) (n4 := 1024) b h c q ⟨768 + i.val, by omega⟩)
      = ownScores Q K (ix5 b h c q i) := by
  unfold allScores
  pointwise

end

/-- A fold of the maximum from the least value is the supremum. -/
theorem fold_maximum {n : Nat} (v : EReal) (hv : v = ⊥) (f g : Fin n → EReal) (hfg : ∀ k, f k = g k) :
    Finset.univ.fold (FloatOps.maximumf (F := Ideal) (φ := .f32)) v f = Finset.univ.sup g := by
  subst hv
  rw [show f = g from funext hfg]
  rfl

/-- The reference's greatest score of a query, a reduction, is the supremum over the 1024 scores. -/
theorem reduced (S : FVec Ideal S8x8x16x256x1024 .f32) (b h : Fin 8) (c : Fin 16) (q : Fin 256) :
    Host.reduce FloatOps.maximumf S (constant S_ .f32 0xFF800000#32) reducesTo_S8x8x16x256x1024_S8x8x16x256_d4 h_S_ (ix4 b h c q)
      = Finset.univ.sup fun y : Fin 1024 => S (ix5 b h c q y) := by
  rw [Host.reduce_eq_fold, Shape.ReducesTo.fold_fiber_r5_a4 reducesTo_S8x8x16x256x1024_S8x8x16x256_d4 (ix4 b h c q)]
  exact fold_maximum _ lowest_eq _ _ fun k => rfl

/-- The maximum with the least value everywhere changes nothing. -/
theorem max_least (D : FVec Ideal S8x8x16x256 .f32) (i : S8x8x16x256.Idx) :
    maximumf (broadcastInDim S8x8x16x256 ![] bcast_S_S8x8x16x256 (constant S_ .f32 0xFF800000#32)) D i = D i := by
  have e : (broadcastInDim S8x8x16x256 ![] bcast_S_S8x8x16x256 (constant S_ .f32 0xFF800000#32) : FVec Ideal S8x8x16x256 .f32) i = (⊥ : EReal) := lowest_eq
  show max ((broadcastInDim S8x8x16x256 ![] bcast_S_S8x8x16x256 (constant S_ .f32 0xFF800000#32) : FVec Ideal S8x8x16x256 .f32) i) (D i) = D i
  rw [e]
  exact bot_sup_eq _

section
variable (S : FVec Ideal S8x8x16x256x1024 .f32)

theorem greatest_apply (b h : Fin 8) (c : Fin 16) (q : Fin 256) :
    greatest S (ix4 b h c q) = Finset.univ.sup fun y : Fin 1024 => S (ix5 b h c q y) :=
  (max_least _ _).trans (reduced S b h c q)

theorem exps_apply (b h : Fin 8) (c : Fin 16) (q : Fin 256) (z : Fin 1024) :
    exps S (ix5 b h c q z) = Ideal.exp (S (ix5 b h c q z) - Finset.univ.sup fun y : Fin 1024 => S (ix5 b h c q y)) := by
  rw [← greatest_apply]
  unfold exps
  generalize greatest S = D
  pointwise

theorem weights_apply (b h : Fin 8) (c : Fin 16) (q : Fin 256) (z : Fin 1024) :
    weights S (ix5 b h c q z)
      = Ideal.div (Ideal.exp (S (ix5 b h c q z) - Finset.univ.sup fun y : Fin 1024 => S (ix5 b h c q y)))
        (∑ x : Fin 1024, Ideal.exp (S (ix5 b h c q x) - Finset.univ.sup fun y : Fin 1024 => S (ix5 b h c q y))) := by
  simp only [← exps_apply]
  unfold weights
  generalize exps S = D
  pointwise

variable (X : IVec S8x8x16x256x3 32) (N : Fin 8 → Fin 8 → Fin 16 → Fin 256 → Fin 3 → Fin 16)

theorem weightedValues_apply (hX : ∀ b h c q s, X (ix5 b h c q s) = BitVec.ofNat 32 (N b h c q s).val)
    (E : FVec Ideal S8x8x16x256x1024 .f32) (b h : Fin 8) (c : Fin 16) (q : Fin 256) (d : Fin 128) :
    weightedValues W X E (ix5 b h c q d)
      = (∑ s : Fin 3, ∑ i : Fin 256, E (ix5 (n0 := 8) (n1 := 8) (n2 := 16) (n3 := 256) (n4 := 1024) b h c q ⟨256 * s.val + i.val, by omega⟩) * valueOf W b h d (N b h c q s) i)
        + ∑ i : Fin 256, E (ix5 (n0 := 8) (n1 := 8) (n2 := 16) (n3 := 256) (n4 := 1024) b h c q ⟨768 + i.val, by omega⟩) * valueOf W b h d c i := by
  unfold weightedValues
  pointwise
  refine congrArg₂ (· + ·) (Finset.sum_congr rfl fun s _ => Finset.sum_congr rfl fun i _ => ?_)
    (Finset.sum_congr rfl fun i _ => ?_)
  · rw [gathered_apply X N hX (vals W) b h c q s i d _ rfl rfl rfl rfl rfl rfl rfl, vals_apply]
    refine congrArg (fun z : Fin 1024 => E (ix5 b h c q z) * valueOf W b h d (N b h c q s) i) (Fin.ext ?_)
    show s.val * 256 + i.val = 256 * s.val + i.val
    omega
  · rw [vals_apply]

end

theorem answer_apply (b h : Fin 8) (c : Fin 16) (q : Fin 256) (d : Fin 128) :
    answer Q K W M (ix3 (n0 := 8) (n1 := 4096) (n2 := 1024) b ⟨256 * c.val + q.val, by omega⟩ ⟨128 * h.val + d.val, by omega⟩)
      = weightedValues W (indices Q M) (weights (allScores Q K (indices Q M))) (ix5 b h c q d) := by
  unfold answer
  generalize weightedValues W (indices Q M) (weights (allScores Q K (indices Q M))) = D
  pointwise

end Cert.MobaRef
-- ==== Proof.Moba.Equation.lean ====
/- The one equation of the attention: over finite queries and keys, what the reference computes from the
   picked blocks and its own is what the kernel computes from all blocks. -/
module

public import proofs.«01_k».proof.Proof.Moba.Choice
public import Mathlib.Analysis.SpecialFunctions.Pow.Real

@[expose] public section

noncomputable section

namespace Cert.MobaMath

open Idealize.ShloMosaic

/-- A sum of reals, as extended reals. -/
theorem coe_sum {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- A nonnegative real factor goes into a sum of extended reals. -/
theorem sum_mul_real {ι : Type} (s : Finset ι) (f : ι → EReal) (r : ℝ) (hr : 0 ≤ r) : (∑ x ∈ s, f x) * (r : EReal) = ∑ x ∈ s, f x * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A number below 1024 lies in one of three groups of 256 or in the last. -/
theorem split_index (y : Fin 1024) : (∃ (s : Fin 3) (i : Fin 256), y = ⟨256 * s.val + i.val, by omega⟩) ∨ ∃ i : Fin 256, y = ⟨768 + i.val, by omega⟩ := by
  rcases Nat.lt_or_ge y.val 768 with h | h
  · exact .inl ⟨⟨y.val / 256, by omega⟩, ⟨y.val % 256, by omega⟩, Fin.ext (by show y.val = 256 * (y.val / 256) + y.val % 256; omega)⟩
  · exact .inr ⟨⟨y.val - 768, by omega⟩, Fin.ext (by show y.val = 768 + (y.val - 768); omega)⟩

/-- A sum over 1024 numbers, by the groups. -/
theorem split_sum (f : Fin 1024 → EReal) :
    ∑ y : Fin 1024, f y = (∑ s : Fin 3, ∑ i : Fin 256, f ⟨256 * s.val + i.val, by omega⟩) + ∑ i : Fin 256, f ⟨768 + i.val, by omega⟩ := by
  have h1 : ∑ y : Fin 1024, f y = (∑ y : Fin 768, f (Fin.castAdd 256 y)) + ∑ i : Fin 256, f (Fin.natAdd 768 i) :=
    Fin.sum_univ_add (a := 768) (b := 256) f
  rw [h1]
  refine congrArg₂ (· + ·) ?_ rfl
  have h2 : ∑ y : Fin 768, f (Fin.castAdd 256 y) = ∑ p : Fin 3 × Fin 256, f (Fin.castAdd 256 (finProdFinEquiv p)) :=
    (Equiv.sum_comp (finProdFinEquiv (m := 3) (n := 256)) fun y => f (Fin.castAdd 256 y)).symm
  rw [h2, Fintype.sum_prod_type]
  refine Finset.sum_congr rfl fun s _ => Finset.sum_congr rfl fun i _ => congrArg f (Fin.ext ?_)
  show i.val + 256 * s.val = 256 * s.val + i.val
  omega

/-- Key `i` of block `j` counts for query `q` of block `c` if `j` is a picked earlier block, or the own block up to the query. -/
def Live (g : Fin 16 → EReal) (c : Fin 16) (q : Fin 256) (j : Fin 16) (i : Fin 256) : Prop :=
  (j.val < c.val ∧ place g j < 3) ∨ (j = c ∧ i.val ≤ q.val)

section
variable (g : Fin 16 → EReal) (c : Fin 16) (q : Fin 256) (N : Fin 3 → Fin 16)

open Classical in
/-- A sum over the picked blocks and the own one is a sum over all, of the keys that count. -/
theorem regroup (hN : Function.Injective N) (hp : ∀ j, place g j < 3 ↔ ∃ s, N s = j) (f : Fin 16 → Fin 256 → EReal) :
    (∑ s : Fin 3, ∑ i : Fin 256, if (N s).val < c.val then f (N s) i else 0) + (∑ i : Fin 256, if i.val ≤ q.val then f c i else 0)
      = ∑ j : Fin 16, ∑ i : Fin 256, if Live g c q j i then f j i else 0 := by
  have h1 : (∑ s : Fin 3, ∑ i : Fin 256, if (N s).val < c.val then f (N s) i else 0)
      = ∑ j : Fin 16, if place g j < 3 then (∑ i : Fin 256, if j.val < c.val then f j i else 0) else 0 := by
    rw [← Finset.sum_filter, ← Finset.sum_image (s := Finset.univ) (g := N) (f := fun j => ∑ i : Fin 256, if j.val < c.val then f j i else 0) (fun a _ b _ e => hN e)]
    refine Finset.sum_congr (Finset.ext fun j => ?_) fun _ _ => rfl
    simp [hp]
  have h2 : (∑ i : Fin 256, if i.val ≤ q.val then f c i else 0)
      = ∑ j : Fin 16, if j = c then (∑ i : Fin 256, if i.val ≤ q.val then f j i else 0) else 0 := by
    rw [Finset.sum_ite_eq' Finset.univ c, if_pos (Finset.mem_univ c)]
  rw [h1, h2, ← Finset.sum_add_distrib]
  refine Finset.sum_congr rfl fun j _ => ?_
  by_cases hj : j = c
  · subst hj
    simp [Live]
  · by_cases hk : place g j < 3
    · simp [Live, hj, hk]
    · simp [Live, hj, hk]
end

section
variable (g : Fin 16 → EReal) (c : Fin 16) (q : Fin 256) (N : Fin 3 → Fin 16) (x : Fin 16 → Fin 256 → ℝ) (z : Fin 1024 → EReal)

/-- The reference's scores of one query: of the picked blocks where they are earlier ones, and of the own block up to the query. -/
structure Scores : Prop where
  inj : Function.Injective N
  picked : ∀ j, place g j < 3 ↔ ∃ s, N s = j
  chosen : ∀ (s : Fin 3) (i : Fin 256), z ⟨256 * s.val + i.val, by omega⟩ = if (N s).val < c.val then (x (N s) i : EReal) else ⊥
  own : ∀ i : Fin 256, z ⟨768 + i.val, by omega⟩ = if i.val ≤ q.val then (x c i : EReal) else ⊥

variable {g c q N x z} (H : Scores g c q N x z)
include H

/-- A score is that of a key that counts, or minus infinity. -/
theorem Scores.cases (y : Fin 1024) : z y = ⊥ ∨ ∃ j i, Live g c q j i ∧ z y = (x j i : EReal) := by
  rcases split_index y with ⟨s, i, rfl⟩ | ⟨i, rfl⟩
  · rw [H.chosen]
    by_cases h : (N s).val < c.val
    · rw [if_pos h]
      exact .inr ⟨N s, i, .inl ⟨h, (H.picked _).2 ⟨s, rfl⟩⟩, rfl⟩
    · exact .inl (if_neg h)
  · rw [H.own]
    by_cases h : i.val ≤ q.val
    · rw [if_pos h]
      exact .inr ⟨c, i, .inr ⟨rfl, h⟩, rfl⟩
    · exact .inl (if_neg h)

/-- Every key that counts has a score. -/
theorem Scores.hit (j : Fin 16) (i : Fin 256) (h : Live g c q j i) : ∃ y, z y = (x j i : EReal) := by
  rcases h with ⟨h, hp⟩ | ⟨rfl, h⟩
  · obtain ⟨s, rfl⟩ := (H.picked j).1 hp
    exact ⟨_, (H.chosen s i).trans (if_pos h)⟩
  · exact ⟨_, (H.own i).trans (if_pos h)⟩

/-- The greatest score is a real number, that of some key that counts. -/
theorem Scores.top : ∃ t : ℝ, (Finset.univ.sup z) = (t : EReal) ∧ (∃ j i, Live g c q j i ∧ x j i = t) ∧ ∀ j i, Live g c q j i → x j i ≤ t := by
  obtain ⟨y, _, hy⟩ := Finset.exists_mem_eq_sup (Finset.univ : Finset (Fin 1024)) ⟨0, Finset.mem_univ _⟩ z
  have hle : ∀ j i, Live g c q j i → (x j i : EReal) ≤ Finset.univ.sup z := fun j i h => by
    obtain ⟨w, hw⟩ := H.hit j i h
    rw [← hw]
    exact Finset.le_sup (Finset.mem_univ w)
  rcases H.cases y with h | ⟨j, i, hl, h⟩
  · have h0 := hle c 0 (.inr ⟨rfl, Nat.zero_le _⟩)
    rw [hy, h] at h0
    exact absurd (le_bot_iff.1 h0) (EReal.coe_ne_bot _)
  · refine ⟨x j i, hy.trans h, ⟨j, i, hl, rfl⟩, fun j' i' h' => ?_⟩
    have := hle j' i' h'
    rw [hy, h] at this
    exact_mod_cast this

end

/-- The kernel's scores: those of the keys that count, over `log 2`, else minus infinity, in the blocks up to the query's. -/
def KernelScores (g : Fin 16 → EReal) (c : Fin 16) (q : Fin 256) (x S : Fin 16 → Fin 256 → EReal) : Prop :=
  ∀ j i, j.val ≤ c.val → (Live g c q j i → S j i = x j i) ∧ (¬ Live g c q j i → S j i = ⊥)

theorem exp2_over_log (a t : ℝ) : Ideal.exp2 (((a * (Real.log 2)⁻¹ : ℝ) : EReal) - ((t * (Real.log 2)⁻¹ : ℝ) : EReal)) = ((Real.exp (a - t) : ℝ) : EReal) := by
  rw [← EReal.coe_sub, Ideal.exp2_coe]
  refine congrArg _ ?_
  show (2 : ℝ) ^ (a * (Real.log 2)⁻¹ - t * (Real.log 2)⁻¹) = _
  rw [Real.rpow_def_of_pos (by norm_num)]
  refine congrArg Real.exp ?_
  have : Real.log 2 ≠ 0 := (Real.log_pos (by norm_num)).ne'
  field_simp

section
variable {g : Fin 16 → EReal} {c : Fin 16} {q : Fin 256} {x : Fin 16 → Fin 256 → ℝ} {S : Fin 16 → Fin 256 → EReal}
  (hS : KernelScores g c q (fun j i => ((x j i * (Real.log 2)⁻¹ : ℝ) : EReal)) S) {t : ℝ}
include hS

theorem live_le {j : Fin 16} {i : Fin 256} (h : Live g c q j i) : j.val ≤ c.val := by
  rcases h with ⟨h, _⟩ | ⟨rfl, _⟩
  · exact h.le
  · exact le_rfl

/-- The kernel's greatest score is the reference's over `log 2`. -/
theorem top_kernel (hx : ∃ j i, Live g c q j i ∧ x j i = t) (hle : ∀ j i, Live g c q j i → x j i ≤ t) :
    topOf c.val S = ((t * (Real.log 2)⁻¹ : ℝ) : EReal) := by
  have hl : 0 ≤ (Real.log 2)⁻¹ := inv_nonneg.2 (Real.log_nonneg (by norm_num))
  unfold topOf
  refine le_antisymm (Finset.sup_le fun j _ => ?_) ?_
  · by_cases hj : j.val ≤ c.val
    · rw [if_pos hj]
      refine Finset.sup_le fun i _ => ?_
      by_cases h : Live g c q j i
      · rw [(hS j i hj).1 h]
        show ((x j i * (Real.log 2)⁻¹ : ℝ) : EReal) ≤ ((t * (Real.log 2)⁻¹ : ℝ) : EReal)
        exact_mod_cast mul_le_mul_of_nonneg_right (hle j i h) hl
      · rw [(hS j i hj).2 h]
        exact bot_le
    · rw [if_neg hj]
      exact bot_le
  · obtain ⟨j, i, h, rfl⟩ := hx
    have hj := live_le hS h
    refine le_trans ?_ (Finset.le_sup (Finset.mem_univ j))
    have e : S j i = ((x j i * (Real.log 2)⁻¹ : ℝ) : EReal) := (hS j i hj).1 h
    rw [if_pos hj, ← e]
    exact Finset.le_sup (f := S j) (Finset.mem_univ i)

open Classical in
/-- The kernel's weighted sums are over the keys that count. -/
theorem mass_kernel (ht : topOf c.val S = ((t * (Real.log 2)⁻¹ : ℝ) : EReal)) (V : Fin 16 → Fin 256 → EReal) :
    massOf c.val S V = ∑ j : Fin 16, ∑ i : Fin 256, if Live g c q j i then V j i * ((Real.exp (x j i - t) : ℝ) : EReal) else 0 := by
  unfold massOf
  rw [ht]
  refine Finset.sum_congr rfl fun j _ => ?_
  by_cases hj : j.val ≤ c.val
  · rw [if_pos hj]
    refine Finset.sum_congr rfl fun i _ => ?_
    by_cases h : Live g c q j i
    · rw [if_pos h, (hS j i hj).1 h, exp2_over_log]
    · rw [if_neg h, (hS j i hj).2 h, EReal.bot_sub, Ideal.exp2_bot, mul_zero]
  · rw [if_neg hj]
    refine (Finset.sum_eq_zero fun i _ => if_neg fun h => hj (live_le hS h)).symm

end

/-- The equation: the reference's weighted values are the kernel's answer. -/
theorem equation {g : Fin 16 → EReal} {c : Fin 16} {q : Fin 256} {N : Fin 3 → Fin 16} {x : Fin 16 → Fin 256 → ℝ} {z : Fin 1024 → EReal}
    {S : Fin 16 → Fin 256 → EReal} (H : Scores g c q N x z)
    (hS : KernelScores g c q (fun j i => ((x j i * (Real.log 2)⁻¹ : ℝ) : EReal)) S) (V : Fin 16 → Fin 256 → EReal) (T L : EReal)
    (hT : T = Finset.univ.sup z) (hL : L = ∑ y : Fin 1024, Ideal.exp (z y - T)) :
    (∑ s : Fin 3, ∑ i : Fin 256, Ideal.div (Ideal.exp (z ⟨256 * s.val + i.val, by omega⟩ - T)) L * V (N s) i)
        + (∑ i : Fin 256, Ideal.div (Ideal.exp (z ⟨768 + i.val, by omega⟩ - T)) L * V c i)
      = kanswer c.val S V := by
  classical
  obtain ⟨t, ht, hx, hle⟩ := H.top
  rw [← hT] at ht
  subst ht
  have hk := top_kernel hS hx hle
  have ec : ∀ (s : Fin 3) (i : Fin 256), Ideal.exp (z ⟨256 * s.val + i.val, by omega⟩ - (t : EReal))
      = if (N s).val < c.val then ((Real.exp (x (N s) i - t) : ℝ) : EReal) else 0 := fun s i => by
    rw [H.chosen]
    split
    · rw [← EReal.coe_sub, Ideal.exp_coe]
    · rw [EReal.bot_sub, Ideal.exp_bot]
  have eo : ∀ i : Fin 256, Ideal.exp (z ⟨768 + i.val, by omega⟩ - (t : EReal))
      = if i.val ≤ q.val then ((Real.exp (x c i - t) : ℝ) : EReal) else 0 := fun i => by
    rw [H.own]
    split
    · rw [← EReal.coe_sub, Ideal.exp_coe]
    · rw [EReal.bot_sub, Ideal.exp_bot]
  -- the weights' sum, a positive real
  have hl : L = ∑ j : Fin 16, ∑ i : Fin 256, if Live g c q j i then ((Real.exp (x j i - t) : ℝ) : EReal) else 0 := by
    rw [hL, split_sum]
    simp only [ec, eo]
    exact regroup g c q N H.inj H.picked fun j i => ((Real.exp (x j i - t) : ℝ) : EReal)
  obtain ⟨l, hlp, hlr⟩ : ∃ l : ℝ, 0 < l ∧ L = (l : EReal) := by
    refine ⟨∑ j : Fin 16, ∑ i : Fin 256, if Live g c q j i then Real.exp (x j i - t) else 0, ?_, ?_⟩
    · have hn : ∀ (j : Fin 16) (i : Fin 256), 0 ≤ (if Live g c q j i then Real.exp (x j i - t) else 0) := fun j i => by
        split
        · exact (Real.exp_pos _).le
        · exact le_rfl
      refine lt_of_lt_of_le ?_ (Finset.single_le_sum (fun j _ => Finset.sum_nonneg fun i _ => hn j i) (Finset.mem_univ c))
      refine lt_of_lt_of_le ?_ (Finset.single_le_sum (fun i _ => hn c i) (Finset.mem_univ (0 : Fin 256)))
      rw [if_pos (.inr ⟨rfl, Nat.zero_le _⟩)]
      exact Real.exp_pos _
    · rw [hl, ← coe_sum]
      refine Finset.sum_congr rfl fun j _ => ?_
      rw [← coe_sum]
      refine Finset.sum_congr rfl fun i _ => ?_
      split <;> rfl
  have hone : massOf c.val S (fun _ _ => 1) = (l : EReal) := by
    rw [mass_kernel hS hk, ← hlr, hl]
    simp only [one_mul]
  unfold kanswer
  rw [hone, Ideal.div_coe hlp.ne', one_mul, mass_kernel hS hk, sum_mul_real _ _ _ (by positivity)]
  subst hlr
  simp only [ec, eo, Ideal.div_coe hlp.ne']
  simp only [ite_mul, zero_mul]
  rw [regroup g c q N H.inj H.picked fun j i => ((Real.exp (x j i - t) : ℝ) : EReal) * ((1 / l : ℝ) : EReal) * V j i]
  refine Finset.sum_congr rfl fun j _ => ?_
  rw [sum_mul_real _ _ _ (by positivity)]
  refine Finset.sum_congr rfl fun i _ => ?_
  split
  · rw [mul_comm, mul_assoc]
  · rw [zero_mul]

end Cert.MobaMath
-- ==== Proof.Moba.Scores.lean ====
/- What the score buffers, the maximum and the sums of a query block hold, over the extended reals. -/
module

public import proofs.«01_k».proof.Proof.Moba.Read

@[expose] public section

set_option maxRecDepth 16384

noncomputable section

namespace Cert.MobaTower

open Idealize.ShloMosaic Cert.MobaIdeal Cert.MobaIdeal.Gen Cert.MobaMath

variable (P : Point Ideal)

/-! ## The loads -/

theorem loadQ_apply (c : Nat) (hc : c < 16) (q : Fin 256) (d : Fin 128) :
    P.loadQ c hc (ix4 0 0 q d) = P.q (ix4 (n0 := 1) (n1 := 1) (n2 := 4096) (n3 := 128) 0 0 ⟨256 * c + q.val, by omega⟩ d) := by
  refine (congrFun (P.hq.read_unread P.q) _).trans (congrArg P.q ?_)
  funext a
  apply Fin.ext
  fin_cases a <;> first | rfl | (show _ + 1 * _ = _; simp)

theorem loadK_apply (n j : Nat) (h : j + n ≤ 16) (r : Fin (256 * n)) (d : Fin 128) :
    P.loadK n j h (ix4 0 0 r d) = P.k (ix4 (n0 := 1) (n1 := 1) (n2 := 4096) (n3 := 128) 0 0 ⟨256 * j + r.val, by omega⟩ d) := by
  refine (congrFun (P.hk.read_unread P.k) _).trans (congrArg P.k ?_)
  funext a
  apply Fin.ext
  fin_cases a <;> first | rfl | (show _ + 1 * _ = _; simp)

theorem loadV_apply (n j : Nat) (h : j + n ≤ 16) (d : Fin 128) (r : Fin (256 * n)) :
    P.loadV n j h (ix4 0 0 d r) = P.v (ix4 (n0 := 1) (n1 := 1) (n2 := 128) (n3 := 4096) 0 0 d ⟨256 * j + r.val, by omega⟩) := by
  refine (congrFun (P.hv.read_unread P.v) _).trans (congrArg P.v ?_)
  funext a
  apply Fin.ext
  fin_cases a <;> first | rfl | (show _ + 1 * _ = _; simp)

theorem loadO_apply (n j : Nat) (h : j + n ≤ 16) (r : Fin (256 * n)) (d : Fin 128) :
    P.loadO n j h (ix2 r d) = P.o (ix2 (n0 := 4096) (n1 := 128) ⟨256 * j + r.val, by omega⟩ d) := by
  refine (congrFun (P.ho.read_unread P.o) _).trans (congrArg P.o ?_)
  funext a
  apply Fin.ext
  fin_cases a <;> first | rfl | (show _ + 1 * _ = _; simp)

theorem loadM_apply (j : Fin 16) (d : Fin 128) : P.loadM (ix3 0 j d) = P.m (ix3 (n0 := 1) (n1 := 16) (n2 := 128) 0 j d) := by
  refine (congrFun (P.hm.read_unread P.m) _).trans (congrArg P.m ?_)
  funext a
  apply Fin.ext
  fin_cases a <;> first | rfl | (show _ + 1 * _ = _; simp)

/-! ## The data of the point -/

/-- Query `q` of block `c`. -/
def queryOf (c : Nat) (hc : c < 16) (q : Fin 256) (d : Fin 128) : EReal :=
  P.q (ix4 (n0 := 1) (n1 := 1) (n2 := 4096) (n3 := 128) 0 0 ⟨256 * c + q.val, by omega⟩ d)

/-- Key `i` of block `j`. -/
def keyOf (j : Fin 16) (i : Fin 256) (d : Fin 128) : EReal :=
  P.k (ix4 (n0 := 1) (n1 := 1) (n2 := 4096) (n3 := 128) 0 0 ⟨256 * j.val + i.val, by omega⟩ d)

/-- Value `i` of block `j`. -/
def valueOf (d : Fin 128) (j : Fin 16) (i : Fin 256) : EReal :=
  P.v (ix4 (n0 := 1) (n1 := 1) (n2 := 128) (n3 := 4096) 0 0 d ⟨256 * j.val + i.val, by omega⟩)

/-- The mean of block `j`. -/
def meanOf (j : Fin 16) (d : Fin 128) : EReal := P.m (ix3 (n0 := 1) (n1 := 16) (n2 := 128) 0 j d)

/-- The last input tells the block of a key. -/
def Tells : Prop := ∀ (j e : Fin 16) (i : Fin 256) (e' : Fin 128), e'.val = e.val →
  P.o (ix2 (n0 := 4096) (n1 := 128) ⟨256 * j.val + i.val, by omega⟩ e') = if e = j then 1 else 0

/-! ## The scores -/

/-- Block `r` of a group's scores, at an index. -/
theorem blockOf_apply (n r : Nat) (h : r < n) (s : FVec Ideal ⟨2, ![256 * n, 256]⟩ .f32) (i : Fin 256) (q : Fin 256) :
    blockOf n r h s (ix2 i q) = s (ix2 ⟨256 * r + i.val, by have := i.isLt; calc 256 * r + i.val < 256 * (r + 1) := by omega
                                                            _ ≤ 256 * n := Nat.mul_le_mul_left _ h⟩ q) := by
  match n, r, h, s with
  | 1, 0, _, s =>
    refine congrArg s ?_
    funext a
    apply Fin.ext
    fin_cases a
    · show i.val = 256 * 0 + i.val
      omega
    · rfl
  | n + 2, r, h, s =>
    refine congrArg s ?_
    funext a
    apply Fin.ext
    fin_cases a
    · rfl
    · show 0 + q.val = q.val
      omega

/-- The bias of a block, from the point's data. -/
theorem bias_point (c : Nat) (hc : c < 16) (j : Fin 16) (q : Fin 256) :
    bias c P.loadM (P.loadQ c hc) (ix2 j q) = biasOf c (meanOf P) (queryOf P c hc q) j := by
  rw [bias_apply c hc]
  have e : (fun i => gates c P.loadM (P.loadQ c hc) (ix2 i q)) = gate c (meanOf P) (queryOf P c hc q) := by
    funext i
    rw [gates_apply c hc]
    unfold gate
    refine if_congr Iff.rfl (Finset.sum_congr rfl fun d _ => ?_) rfl
    rw [loadM_apply, loadQ_apply]
    rfl
  rw [e]
  rfl

open Classical in
/-- The picked bias: every other product is zero. -/
theorem pick (hO : Tells P) (c : Nat) (hc : c < 16) (j : Fin 16) (i q : Fin 256) :
    ∑ e : Fin 128, P.o (ix2 (n0 := 4096) (n1 := 128) ⟨256 * j.val + i.val, by omega⟩ e)
        * (if h : e.val < 16 then bias c P.loadM (P.loadQ c hc) (ix2 ⟨e.val, h⟩ q) else 0)
      = biasOf c (meanOf P) (queryOf P c hc q) j := by
  rw [Finset.sum_eq_single (⟨j.val, by omega⟩ : Fin 128)]
  · rw [dif_pos (show (⟨j.val, by omega⟩ : Fin 128).val < 16 from j.isLt), hO j j i _ rfl, if_pos rfl, one_mul]
    exact bias_point P c hc j q
  · intro e _ he
    by_cases h : e.val < 16
    · rw [hO j ⟨e.val, h⟩ i e rfl, if_neg, zero_mul]
      intro h'
      apply he
      apply Fin.ext
      exact congrArg (fun x : Fin 16 => x.val) h'
    · rw [dif_neg h, mul_zero]
  · intro h
    exact absurd (Finset.mem_univ _) h

/-- A score of the run is the score of the mathematics. -/
theorem tile_apply (hO : Tells P) (c j : Nat) (hc : c < 16) (hj : j ≤ c) (i q : Fin 256) :
    tile P c j hc hj (ix2 i q) = kscore c q.val (meanOf P) (queryOf P c hc q) (keyOf P) ⟨j, by omega⟩ i := by
  have key : blockOf (width c j) (j % 4) (width_lt c j hj)
      (scores (width c j) (group _ (width_pos c j) (width_le c j)) (P.loadK _ (4 * (j / 4)) (width_fits c j hc hj))
        (P.loadO _ (4 * (j / 4)) (width_fits c j hc hj)) (aug P c hc)) (ix2 i q)
      = (∑ d : Fin 128, keyOf P ⟨j, by omega⟩ i d * (queryOf P c hc q d * scale2)) + biasOf c (meanOf P) (queryOf P c hc q) ⟨j, by omega⟩ := by
    have hx : ∀ (x : Nat) (hx : x < 4096), x = 256 * j + i.val → (⟨x, hx⟩ : Fin 4096) = ⟨256 * j + i.val, by omega⟩ := fun x hx e => Fin.ext e
    rw [blockOf_apply, scores_apply]
    congr 1
    · refine Finset.sum_congr rfl fun d _ => ?_
      rw [loadK_apply, hx _ _ (by show 256 * (4 * (j / 4)) + (256 * (j % 4) + i.val) = 256 * j + i.val; omega)]
      unfold aug
      rw [augmented_low, loadQ_apply]
      rfl
    · rw [← pick P hO c hc ⟨j, by omega⟩ i q]
      refine Finset.sum_congr rfl fun e _ => ?_
      rw [loadO_apply, hx _ _ (by show 256 * (4 * (j / 4)) + (256 * (j % 4) + i.val) = 256 * j + i.val; omega)]
      unfold aug
      rw [augmented_high]
  have hcaus : causal (ix2 i q) = BitVec.ofBool (decide (i.val ≤ q.val)) := by
    have e : causal (ix2 i q) = IntOp.cmpi .sle (BitVec.ofNat 32 i.val) (BitVec.ofNat 32 q.val) := by
      unfold causal
      pointwise
    rw [e]
    have hi := i.isLt
    have hq := q.isLt
    simp only [IntOp.cmpi, BitVec.sle]
    have e1 : (BitVec.ofNat 32 i.val).toInt = i.val := by
      rw [BitVec.toInt_eq_toNat_of_lt] <;> rw [BitVec.toNat_ofNat, Nat.mod_eq_of_lt] <;> omega
    have e2 : (BitVec.ofNat 32 q.val).toInt = q.val := by
      rw [BitVec.toInt_eq_toNat_of_lt] <;> rw [BitVec.toNat_ofNat, Nat.mod_eq_of_lt] <;> omega
    rw [e1, e2]
    simp
  unfold tile kscore
  by_cases h : j = c
  · have e : (select causal (blockOf (width c j) (j % 4) (width_lt c j hj)
        (scores (width c j) (group _ (width_pos c j) (width_le c j)) (P.loadK _ (4 * (j / 4)) (width_fits c j hc hj))
          (P.loadO _ (4 * (j / 4)) (width_fits c j hc hj)) (aug P c hc)))
        (broadcast S256x256 (Named.named κ "mask" 4048155338#32 : Ideal .f32))) (ix2 i q)
        = Scalar.select (causal (ix2 i q)) (blockOf (width c j) (j % 4) (width_lt c j hj)
          (scores (width c j) (group _ (width_pos c j) (width_le c j)) (P.loadK _ (4 * (j / 4)) (width_fits c j hc hj))
          (P.loadO _ (4 * (j / 4)) (width_fits c j hc hj)) (aug P c hc)) (ix2 i q)) (Named.named κ "mask" 4048155338#32 : Ideal .f32) := rfl
    simp only [if_pos h]
    rw [e, key, hcaus, mask_eq, select_ofBool]
    by_cases hi : i.val ≤ q.val <;> simp [h, hi]
  · simp only [if_neg h]
    rw [key, if_neg]
    intro h'
    exact h h'.1

/-! ## The score buffers -/

/-- What a buffer holds of query block `c` once its scores are stored. -/
theorem canon_tiles (c : Nat) (hc : c < 16) (L : List (View.Piece (Elt Ideal) S4096x256 .bf16)) (n : Nat) (hn : n ≤ c) (j : Nat) (hj : j ≤ n) (i q : Fin 256) :
    View.canon (tiles P c hc L n hn) (ix2 (n0 := 4096) (n1 := 256) ⟨256 * j + i.val, by omega⟩ q) = tile P c j hc (hj.trans hn) (ix2 i q) := by
  have emb : ∀ (m : Nat) (hm : m < 16), (Rect.unit (s := S4096x256) ![256 * m, 0] S256x256.size (inb_block m hm)).emb (ix2 i q)
      = ix2 (n0 := 4096) (n1 := 256) ⟨256 * m + i.val, by omega⟩ q := by
    intro m hm
    funext a
    apply Fin.ext
    fin_cases a <;> first | rfl | (show _ + 1 * _ = _; simp)
  induction n with
  | zero =>
    obtain rfl : j = 0 := by omega
    rw [tiles, ← emb 0 (by omega), View.canon_cons_emb]
    pointwise
  | succ n ih =>
    rw [tiles]
    by_cases h : j = n + 1
    · subst h
      rw [← emb (n + 1) (by omega), View.canon_cons_emb]
      pointwise
    · rw [View.canon_cons_of_not_mem]
      · exact ih (by omega) (by omega) emb
      · rw [Rect.mem_set_unit]
        intro h'
        have := (h' 0).1
        have e : (256 * (n + 1) : Nat) ≤ 256 * j + i.val := this
        omega

/-- Query block `c` reads back its own scores. -/
theorem back_apply (c n j : Nat) (hc : c < 16) (h : j + n ≤ c + 1) (r : Fin n) (i q : Fin 256) :
    back P c n j hc (by omega) (ix2 ⟨256 * r.val + i.val, by have := r.isLt; omega⟩ q) = tile P c (j + r.val) hc (by omega) (ix2 i q) := by
  unfold back
  rw [View.readCov_eq_canon']
  have e : ∀ (b m : Nat) (hb : b + 4 * m < 16) (hx : b + 4 * m = c), View.canon (stores P b m hb) (ix2 (n0 := 4096) (n1 := 256) ⟨256 * (j + r.val) + i.val, by omega⟩ q)
      = tile P c (j + r.val) hc (by omega) (ix2 i q) := by
    intro b m hb hx
    subst hx
    cases m with
    | zero => exact canon_tiles P _ _ _ _ _ _ (by omega) i q
    | succ m => exact canon_tiles P _ _ _ _ _ _ (by omega) i q
  rw [← e (c % 4) (c / 4) (by omega) (by omega)]
  refine congrArg (View.canon _) ?_
  funext a
  apply Fin.ext
  fin_cases a
  · show 256 * j + 1 * (256 * r.val + i.val) = 256 * (j + r.val) + i.val
    omega
  · show 0 + 1 * q.val = q.val
    omega

end Cert.MobaTower
-- ==== Proof.Moba.Sums.lean ====
/- The maximum, the sums and the stored block of a query block, over the extended reals. -/
module

public import proofs.«01_k».proof.Proof.Moba.Scores

@[expose] public section

set_option maxRecDepth 16384

noncomputable section

namespace Cert.MobaTower

open Idealize.ShloMosaic Cert.MobaIdeal Cert.MobaIdeal.Gen Cert.MobaMath

variable (P : Point Ideal)

/-- The scores of a query. -/
def scoreOf (c : Nat) (hc : c < 16) (q : Fin 256) : Fin 16 → Fin 256 → EReal :=
  kscore c q.val (meanOf P) (queryOf P c hc q) (keyOf P)

/-! ## The maximum -/

theorem upTo_le (hO : Tells P) (c : Nat) (hc : c < 16) (j : Nat) (hj : j ≤ c) (a : Fin 8) (q : Fin 256) (x : EReal) :
    upTo P c hc j hj (ix2 a q) ≤ x ↔ ∀ r : Fin 16, r.val ≤ j → ∀ b : Fin 32, scoreOf P c hc q r ⟨b.val * 8 + a.val, by omega⟩ ≤ x := by
  have base : ∀ (j : Nat) (hj : j ≤ c), part (tile P c j hc hj) (ix2 a q) ≤ x
      ↔ ∀ b : Fin 32, scoreOf P c hc q ⟨j, by omega⟩ ⟨b.val * 8 + a.val, by omega⟩ ≤ x := by
    intro j hj
    rw [part_apply, Finset.sup_le_iff]
    refine ⟨fun h b => ?_, fun h b _ => ?_⟩
    · exact (tile_apply P hO c j hc hj ⟨b.val * 8 + a.val, by omega⟩ q).symm.trans_le (h b (Finset.mem_univ _))
    · rw [tile_apply P hO]
      exact h b
  induction j with
  | zero =>
    rw [upTo, base]
    refine ⟨fun h r hr b => ?_, fun h b => h _ (Nat.le_refl 0) b⟩
    have er : r = ⟨0, by omega⟩ := Fin.ext (by show r.val = 0; omega)
    rw [er]
    exact h b
  | succ j ih =>
    have e : upTo P c hc (j + 1) hj (ix2 a q) = max (upTo P c hc j (by omega) (ix2 a q)) (part (tile P c (j + 1) hc hj) (ix2 a q)) := rfl
    rw [e, max_le_iff]
    refine (and_congr (ih (Nat.le_of_succ_le hj) base) (base (j + 1) hj)).trans ?_
    refine ⟨fun h r hr b => ?_, fun h => ⟨fun r hr b => h r (by omega) b, fun b => h _ (Nat.le_refl _) b⟩⟩
    by_cases hr' : r.val ≤ j
    · exact h.1 r hr' b
    · have er : r = ⟨j + 1, by omega⟩ := Fin.ext (by show r.val = j + 1; omega)
      rw [er]
      exact h.2 b

/-- The maximum of a query's scores. -/
theorem top_apply (hO : Tells P) (c : Nat) (hc : c < 16) (q : Fin 256) : top P c hc (ix2 0 q) = topOf c (scoreOf P c hc q) := by
  have e : top P c hc (ix2 0 q) = Finset.univ.sup fun a : Fin 8 => upTo P c hc c (Nat.le_refl c) (ix2 a q) := by
    unfold top
    pointwise
    rw [lowest_eq]
    rfl
  rw [e]
  refine eq_of_forall_ge_iff fun x => ?_
  unfold topOf
  rw [Finset.sup_le_iff, Finset.sup_le_iff]
  refine ⟨fun h r _ => ?_, fun h a _ => ?_⟩
  · by_cases hr : r.val ≤ c
    · rw [if_pos hr, Finset.sup_le_iff]
      intro i _
      have h' := (upTo_le P hO c hc c (Nat.le_refl c) ⟨i.val % 8, by omega⟩ q x).1 (h _ (Finset.mem_univ _)) r hr ⟨i.val / 8, by omega⟩
      have ei : (⟨i.val / 8 * 8 + i.val % 8, by omega⟩ : Fin 256) = i := Fin.ext (by show i.val / 8 * 8 + i.val % 8 = i.val; omega)
      rw [← ei]
      exact h'
    · rw [if_neg hr]
      exact bot_le
  · rw [upTo_le P hO]
    intro r hr b
    have h' := h r (Finset.mem_univ _)
    rw [if_pos hr, Finset.sup_le_iff] at h'
    exact h' _ (Finset.mem_univ _)

/-! ## The sums -/

/-- The values and the ones. -/
def withOnes (d : Fin 144) (j : Fin 16) (i : Fin 256) : EReal := if h : d.val < 128 then valueOf P ⟨d.val, h⟩ j i else 1

/-- What block `j` adds to the sums. -/
def adds (c : Nat) (hc : c < 16) (d : Fin 144) (q : Fin 256) (j : Nat) : EReal :=
  if h : j < 16 then ∑ i : Fin 256, withOnes P d ⟨j, h⟩ i * Ideal.exp2 (scoreOf P c hc q ⟨j, h⟩ i - topOf c (scoreOf P c hc q)) else 0

/-- A sum over `n` blocks of 256. -/
theorem sum_blocks (n : Nat) (f : Fin (256 * n) → EReal) :
    ∑ k, f k = ∑ r : Fin n, ∑ i : Fin 256, f ⟨256 * r.val + i.val, by
      have := r.isLt; have := i.isLt; calc 256 * r.val + i.val < 256 * (r.val + 1) := by omega
                                        _ ≤ 256 * n := Nat.mul_le_mul_left _ r.isLt⟩ := by
  rw [← Equiv.sum_comp ((finProdFinEquiv (m := n) (n := 256)).trans (finCongr (Nat.mul_comm n 256))) f, Fintype.sum_prod_type]
  refine Finset.sum_congr rfl fun r _ => Finset.sum_congr rfl fun i _ => congrArg f (Fin.ext ?_)
  show i.val + 256 * r.val = 256 * r.val + i.val
  omega

/-- A group adds what its blocks add. -/
theorem group_apply (hO : Tells P) (c n j : Nat) (hc : c < 16) (h : j + n ≤ c + 1) (G : Group n) (d : Fin 144) (q : Fin 256) :
    weighted n G (P.loadV n j (by omega)) (back P c n j hc (by omega)) (top P c hc) (ix2 d q) = ∑ r ∈ Finset.range n, adds P c hc d q (j + r) := by
  rw [weighted_apply, sum_blocks, Finset.sum_range]
  refine Finset.sum_congr rfl fun r _ => ?_
  have hr := r.isLt
  unfold adds
  rw [dif_pos (show j + r.val < 16 by omega)]
  refine Finset.sum_congr rfl fun i _ => ?_
  rw [back_apply P c n j hc h r i q, tile_apply P hO, top_apply P hO]
  refine congrArg₂ _ ?_ rfl
  unfold withOnes
  by_cases hd : d.val < 128
  · rw [dif_pos hd, dif_pos hd, loadV_apply]
    unfold valueOf
    refine congrArg (fun x => P.v (ix4 (n0 := 1) (n1 := 1) (n2 := 128) (n3 := 4096) 0 0 ⟨d.val, hd⟩ x)) (Fin.ext ?_)
    show 256 * j + (256 * r.val + i.val) = 256 * (j + r.val) + i.val
    omega
  · rw [dif_neg hd, dif_neg hd]

theorem wholes_apply (hO : Tells P) (c : Nat) (hc : c < 16) (g : Nat) (hg : g < c / 4) (d : Fin 144) (q : Fin 256) :
    wholes P c hc g hg (ix2 d q) = ∑ j ∈ Finset.range (4 * (g + 1)), adds P c hc d q j := by
  induction g with
  | zero =>
    rw [wholes, group_apply P hO c 4 _ hc (by omega)]
    simp
  | succ g ih =>
    have e : wholes P c hc (g + 1) hg (ix2 d q) = wholes P c hc g (Nat.lt_of_succ_lt hg) (ix2 d q)
        + weighted 4 (group 4 (by omega) (by omega)) (P.loadV 4 (4 * (g + 1)) (by omega)) (back P c 4 (4 * (g + 1)) hc (by omega)) (top P c hc) (ix2 d q) := rfl
    rw [e, ih, group_apply P hO c 4 _ hc (by omega), ← Finset.sum_range_add, show 4 * (g + 1) + 4 = 4 * (g + 1 + 1) by omega]

theorem total_apply (hO : Tells P) (c : Nat) (hc : c < 16) (d : Fin 144) (q : Fin 256) :
    total P c hc (c / 4) (Nat.le_refl _) (ix2 d q) = ∑ j ∈ Finset.range (c + 1), adds P c hc d q j := by
  have l : lasts P c hc (ix2 d q) = ∑ r ∈ Finset.range (c % 4 + 1), adds P c hc d q (4 * (c / 4) + r) := by
    unfold lasts
    rw [group_apply P hO c _ _ hc (by omega)]
  have g : ∀ (g : Nat) (hg : g ≤ c / 4), total P c hc g hg (ix2 d q) = ∑ j ∈ Finset.range (4 * g), adds P c hc d q j + lasts P c hc (ix2 d q) := by
    intro g hg
    cases g with
    | zero => rw [total]; simp
    | succ g =>
      have e : total P c hc (g + 1) hg (ix2 d q) = wholes P c hc g hg (ix2 d q) + lasts P c hc (ix2 d q) := rfl
      rw [e, wholes_apply P hO]
  rw [g, l, ← Finset.sum_range_add, show 4 * (c / 4) + (c % 4 + 1) = c + 1 by omega]

/-- The sum over the blocks up to `c`. -/
theorem total_mass (hO : Tells P) (c : Nat) (hc : c < 16) (d : Fin 144) (q : Fin 256) :
    total P c hc (c / 4) (Nat.le_refl _) (ix2 d q) = massOf c (scoreOf P c hc q) (withOnes P d) := by
  rw [total_apply P hO]
  unfold massOf
  have e : ∀ j : Fin 16, (if j.val ≤ c then ∑ i : Fin 256, withOnes P d j i * Ideal.exp2 (scoreOf P c hc q j i - topOf c (scoreOf P c hc q)) else 0)
      = (fun j : Nat => if j ≤ c then adds P c hc d q j else 0) j.val := by
    intro j
    show _ = if j.val ≤ c then adds P c hc d q j.val else 0
    unfold adds
    rw [dif_pos j.isLt]
  rw [Finset.sum_congr rfl fun j _ => e j, ← Finset.sum_range (fun j : Nat => if j ≤ c then adds P c hc d q j else 0), ← Finset.sum_filter]
  refine Finset.sum_congr ?_ fun _ _ => rfl
  ext j
  simp only [Finset.mem_range, Finset.mem_filter]
  omega

/-! ## The stored block -/

theorem result_apply (hO : Tells P) (c : Nat) (hc : c < 16) (q : Fin 256) (d : Fin 128) :
    result P c hc (ix3 0 q d) = kanswer c (scoreOf P c hc q) (valueOf P d) := by
  unfold result
  rw [quotient_apply, total_mass P hO, total_mass P hO]
  unfold kanswer
  have e1 : withOnes P ⟨d.val, by omega⟩ = valueOf P d := by
    funext j i
    unfold withOnes
    rw [dif_pos d.isLt]
  have e2 : withOnes P 128 = fun _ _ => 1 := by
    funext j i
    unfold withOnes
    rw [dif_neg (by decide)]
  rw [e1, e2]

/-- What the output holds, at query `q` of block `c`. -/
theorem results_apply (hO : Tells P) (c : Nat) (hc : c < 16) (q : Fin 256) (d : Fin 128) :
    View.canon (results P 15 (by decide)) (ix3 (n0 := 1) (n1 := 4096) (n2 := 128) 0 ⟨256 * c + q.val, by omega⟩ d) = kanswer c (scoreOf P c hc q) (valueOf P d) := by
  rw [← result_apply P hO c hc]
  have emb : ∀ (m : Nat) (hm : m < 16), (Rect.unit (s := S1x4096x128) ![0, 256 * m, 0] S1x256x128.size (inb_out m hm)).emb (ix3 0 q d)
      = ix3 (n0 := 1) (n1 := 4096) (n2 := 128) 0 ⟨256 * m + q.val, by omega⟩ d := by
    intro m hm
    funext a
    apply Fin.ext
    fin_cases a <;> first | rfl | (show _ + 1 * _ = _; simp)
  have e : ∀ (n : Nat) (hn : n < 16), c ≤ n → View.canon (results P n hn) (ix3 (n0 := 1) (n1 := 4096) (n2 := 128) 0 ⟨256 * c + q.val, by omega⟩ d) = result P c hc (ix3 0 q d) := by
    intro n
    induction n with
    | zero =>
      intro hn h
      obtain rfl : c = 0 := by omega
      rw [results, ← emb 0 hn, View.canon_cons_emb]
    | succ n ih =>
      intro hn h
      rw [results]
      by_cases hcn : c = n + 1
      · subst hcn
        rw [← emb (n + 1) hn, View.canon_cons_emb]
      · rw [View.canon_cons_of_not_mem]
        · exact ih (by omega) (by omega)
        · rw [Rect.mem_set_unit]
          intro h'
          have h1 : 256 * (n + 1) ≤ 256 * c + q.val := (h' 1).1
          omega
  exact e 15 (by decide) (by omega)

end Cert.MobaTower
-- ==== Proof.Moba.Match.lean ====
/- The stores that the attention kernel's run found are those of `Moba.Tower`. -/
module

public import proofs.«01_k».proof.Proof.Moba.Tower

@[expose] public section

set_option maxRecDepth 65536

noncomputable section

namespace Cert.MobaTower

open Idealize.ShloMosaic Cert.MobaIdeal Cert.MobaIdeal.Gen

variable {F : FTy → Type} [FloatOps F] [Named F]

variable (P : Point F) (c : Dev nD)

set_option maxHeartbeats 4000000 in
/-- The stores of the run, one block of queries after the other, are the tower's. -/
theorem run_stores (i : grid0.Coords) (a7 : Memref sig .tc .vmem S1x4096x128 .bf16) (h7 : a7.IsWhole) (h8 : P.s0.IsWhole) (h9 : P.s1.IsWhole)
    (h10 : P.s2.IsWhole) (h11 : P.s3.IsWhole) :
    (kernelRun0_A c i P.bq P.hq P.bk P.hk P.bv P.hv P.bm P.hm P.bo P.ho a7 h7 P.s0 h8 P.s1 h9 P.s2 h10 P.s3 h11 P.q P.k P.v P.m P.o).1
      = results P 15 (by decide) := by
  repeat' first
    | with_reducible rfl
    | refine congrArg₂ List.cons (congrArg (Sigma.mk _) ?_) ?_
  all_goals rfl

end Cert.MobaTower
-- ==== Proof.Moba.Onehot.lean ====
/- The table that tells a key's block, as the host computes it. -/
module

public import proofs.«01_k».proof.Proof.Gen.MobaIdeal.Frame
public import Idealize.ShloMosaic.Lib.Pipeline.ValueKit
public import Idealize.ShloMosaic.Lib.Pointwise
public import Idealize.ShloMosaic.Lib.StableHlo.Run
public import Idealize.ShloMosaic.Lib.Tactic.CleanTypes

@[expose] public section

set_option maxRecDepth 16384

noncomputable section

namespace Cert.MobaTower

open Idealize.ShloMosaic Idealize.ShloMosaic.TcCoe Cert.MobaIdeal Cert.MobaIdeal.Gen

variable (m : (ℓ : Loc nD τ sig) → Buf (Elt Ideal) ℓ) (c : Dev nD)

/-- The quotient of a word by 256, rounded down, as the host computes it. -/
def floorDiv (x : BitVec 32) : BitVec 32 :=
  Scalar.select (IntOp.andi (IntOp.cmpi .ne (if x = 0 then 0 else if x.msb = true then -1 else 1 : BitVec 32)
        (if 256#32 = 0 then 0 else if BitVec.msb 256#32 = true then -1 else 1 : BitVec 32))
      (IntOp.cmpi .ne (IntOp.remsi .host x 256#32) 0#32))
    (IntOp.subi (IntOp.divsi .host x 256#32) 1#32) (IntOp.divsi .host x 256#32)

theorem floorDiv_ofNat : ∀ k : Fin 4096, floorDiv (BitVec.ofNat 32 k.val) = BitVec.ofNat 32 (k.val / 256) := by
  decide +kernel

theorem uitofp_cmpi_eq (x y : BitVec 32) :
    (FloatOps.uitofp (F := Ideal) .bf16 (IntOp.cmpi .eq x y) : EReal) = if x = y then 1 else 0 := by
  show (((IntOp.cmpi .eq x y).toNat : ℝ) : EReal) = _
  by_cases h : x = y
  · subst h; simp [IntOp.cmpi]
  · simp [IntOp.cmpi, h]

/-- The table holds 1 where the column is the key's block, and 0 elsewhere. -/
theorem table_apply (k : Fin 4096) (e : Fin 128) :
    (V m c main_v8 : FVec Ideal S4096x128 .bf16) (ix2 k e) = (if e.val = k.val / 256 then 1 else 0 : EReal) := by
  unfold V
  simp only [hostOps0, hostOps0_1, hostOps0_2, List.flatten_cons, List.flatten_nil, List.append_nil, List.cons_append,
      List.nil_append, StableHlo.TRef.ternary, StableHlo.TRef.unary, StableHlo.TRef.binary, StableHlo.TRef.nullary, StableHlo.TRef.toBuf, StableHlo.TRef.ofBuf, cast_eq]
  after_results_simp
  clean_types
  pointwise
  show (FloatOps.uitofp (F := Ideal) .bf16 (IntOp.cmpi .eq (floorDiv (BitVec.ofNat 32 k.val)) (BitVec.ofNat 32 e.val)) : EReal) = _
  rw [floorDiv_ofNat, uitofp_cmpi_eq]
  refine if_congr ?_ rfl rfl
  rw [← BitVec.toNat_inj, BitVec.toNat_ofNat, BitVec.toNat_ofNat, Nat.mod_eq_of_lt (by omega), Nat.mod_eq_of_lt (by omega)]
  exact eq_comm

end Cert.MobaTower
-- ==== Proof.Moba.Array.lean ====
/- The array that the attention kernel leaves, over the extended reals. -/
module

public import proofs.«01_k».proof.Proof.Moba.Sums
public import proofs.«01_k».proof.Proof.Moba.Match
public import proofs.«01_k».proof.Proof.Moba.Onehot
public import proofs.«01_k».proof.Proof.Gen.MobaIdeal.Value

@[expose] public section

set_option maxRecDepth 16384

noncomputable section

namespace Cert.MobaTower

open Idealize.ShloMosaic Idealize.ShloMosaic.TcCoe Cert.MobaIdeal Cert.MobaIdeal.Gen Cert.MobaMath

/-- What the kernel answers at one index, from its four arguments. -/
def attended (Q : FVec Ideal S8x8x4096x128 .f32) (K : FVec Ideal S8x8x4096x128 .bf16) (W : FVec Ideal S8x8x128x4096 .bf16)
    (M : FVec Ideal S8x16x1024 .f32) (b h : Fin 8) (c : Fin 16) (q : Fin 256) (d : Fin 128) : EReal :=
  kanswer c.val (kscore c.val q.val (fun j e => M (ix3 (n0 := 8) (n1 := 16) (n2 := 1024) b j ⟨128 * h.val + e.val, by omega⟩))
      (fun e => Q (ix4 (n0 := 8) (n1 := 8) (n2 := 4096) (n3 := 128) b h ⟨256 * c.val + q.val, by omega⟩ e))
      (fun j i e => K (ix4 (n0 := 8) (n1 := 8) (n2 := 4096) (n3 := 128) b h ⟨256 * j.val + i.val, by omega⟩ e)))
    (fun j i => W (ix4 (n0 := 8) (n1 := 8) (n2 := 128) (n3 := 4096) b h d ⟨256 * j.val + i.val, by omega⟩))

/-- The whole array. -/
def attendedArray (Q : FVec Ideal S8x8x4096x128 .f32) (K : FVec Ideal S8x8x4096x128 .bf16) (W : FVec Ideal S8x8x128x4096 .bf16)
    (M : FVec Ideal S8x16x1024 .f32) : FVec Ideal S8x4096x1024 .bf16 := fun i =>
  attended Q K W M (i 0) ⟨(i 2).val / 128, by have h : (i 2).val < 1024 := (i 2).isLt; omega⟩
    ⟨(i 1).val / 256, by have h : (i 1).val < 4096 := (i 1).isLt; omega⟩ ⟨(i 1).val % 256, by omega⟩ ⟨(i 2).val % 128, by omega⟩

/-- Where the windows of a grid point lie: one row and head, the table whole. -/
theorem window_at : ∀ t : Fin grid0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, 0, t.val % 8] ∧ win0_4.index t = ![0, 0]
    ∧ win0_5.index t = ![t.val / 8, 0, t.val % 8] := by
  decide +kernel

section
variable (m : (ℓ : Loc nD τ sig) → Buf (Elt Ideal) ℓ) (c : Dev nD)

/-- The data of a grid point. -/
def pointAt (t : Fin grid0.N) : Point Ideal :=
  ⟨ms0_0 t, hs0_0 t, ms0_1 t, hs0_1 t, ms0_2 t, hs0_2 t, ms0_3 t, hs0_3 t, ms0_4 t, hs0_4 t, scM0_0, scM0_1, scM0_2, scM0_3,
    iblk m c 0 t, iblk m c 1 t, iblk m c 2 t, iblk m c 3 t, iblk m c 4 t⟩

theorem point_tells (t : Fin grid0.N) : Tells (pointAt m c t) := by
  intro j e i e' he
  have h : (pointAt m c t).o (ix2 (n0 := 4096) (n1 := 128) ⟨256 * j.val + i.val, by omega⟩ e')
      = (V m c main_v8 : FVec Ideal S4096x128 .bf16) (ix2 (n0 := 4096) (n1 := 128) ⟨256 * j.val + i.val, by omega⟩ e') := by
    show iblk m c 4 t _ = _
    obtain ⟨w0, w1, w2, w3, w4, w5⟩ := window_at t
    blk_ext [iblk, window_at t]
  rw [h, table_apply]
  refine if_congr ?_ rfl rfl
  rw [Fin.ext_iff, he]
  show e.val = (256 * j.val + i.val) / 256 ↔ e.val = j.val
  omega

theorem point_q (t : Fin grid0.N) (b h : Fin 8) (ht : t.val = 8 * b.val + h.val) (s : Fin 4096) (d : Fin 128) :
    (pointAt m c t).q (ix4 0 0 s d) = m ((c.tc : Thread nD τ).loc main_arg0) (ix4 b h s d) := by
  show iblk m c 0 t _ = _
  obtain ⟨w0, w1, w2, w3, w4, w5⟩ := window_at t
  have h0 : t.val / 8 = b.val := by omega
  have h1 : t.val % 8 = h.val := by omega
  rw [h0, h1] at w0
  blk_ext [iblk, V, w0]

theorem point_k (t : Fin grid0.N) (b h : Fin 8) (ht : t.val = 8 * b.val + h.val) (s : Fin 4096) (d : Fin 128) :
    (pointAt m c t).k (ix4 0 0 s d) = m ((c.tc : Thread nD τ).loc main_arg1) (ix4 b h s d) := by
  show iblk m c 1 t _ = _
  obtain ⟨w0, w1, w2, w3, w4, w5⟩ := window_at t
  have h0 : t.val / 8 = b.val := by omega
  have h1 : t.val % 8 = h.val := by omega
  rw [h0, h1] at w1
  blk_ext [iblk, V, w1]

theorem point_v (t : Fin grid0.N) (b h : Fin 8) (ht : t.val = 8 * b.val + h.val) (d : Fin 128) (s : Fin 4096) :
    (pointAt m c t).v (ix4 0 0 d s) = m ((c.tc : Thread nD τ).loc main_arg2) (ix4 b h d s) := by
  show iblk m c 2 t _ = _
  obtain ⟨w0, w1, w2, w3, w4, w5⟩ := window_at t
  have h0 : t.val / 8 = b.val := by omega
  have h1 : t.val % 8 = h.val := by omega
  rw [h0, h1] at w2
  blk_ext [iblk, V, w2]

theorem point_m (t : Fin grid0.N) (b h : Fin 8) (ht : t.val = 8 * b.val + h.val) (j : Fin 16) (d : Fin 128) :
    (pointAt m c t).m (ix3 0 j d)
      = m ((c.tc : Thread nD τ).loc main_arg3) (ix3 (n0 := 8) (n1 := 16) (n2 := 1024) b j ⟨128 * h.val + d.val, by omega⟩) := by
  show iblk m c 3 t _ = _
  obtain ⟨w0, w1, w2, w3, w4, w5⟩ := window_at t
  have h0 : t.val / 8 = b.val := by omega
  have h1 : t.val % 8 = h.val := by omega
  rw [h0, h1] at w3
  blk_ext [iblk, V, w3]

/-- What a grid point writes, at one index. -/
theorem point_writes (t : Fin grid0.N) (b h : Fin 8) (ht : t.val = 8 * b.val + h.val) (qc : Fin 16) (q : Fin 256) (d : Fin 128) :
    outsAt0 m c t (ix3 (n0 := 1) (n1 := 4096) (n2 := 128) 0 ⟨256 * qc.val + q.val, by omega⟩ d)
      = attended (m ((c.tc : Thread nD τ).loc main_arg0)) (m ((c.tc : Thread nD τ).loc main_arg1))
        (m ((c.tc : Thread nD τ).loc main_arg2)) (m ((c.tc : Thread nD τ).loc main_arg3)) b h qc q d := by
  unfold outsAt0 out0_A_5
  have hr := run_stores (pointAt m c t) c (grid0.coords t) (ms0_5 t) (hs0_5 t) (Memref.isWhole_whole _) (Memref.isWhole_whole _)
    (Memref.isWhole_whole _) (Memref.isWhole_whole _)
  have hr' := congrArg (fun l => VO0_5.read (Elt Ideal) (VO0_5.writes (Elt Ideal) VO0_5.junk l)) hr
  refine (congrFun hr' _).trans ?_
  show VO0_5.read (Elt Ideal) (VO0_5.writes (Elt Ideal) VO0_5.junk (results (pointAt m c t) 15 (by decide))) _ = _
  rw [View.read_writes_junk_eq_canon, results_apply (pointAt m c t) (point_tells m c t) qc.val qc.isLt q d]
  unfold attended scoreOf
  have eq : queryOf (pointAt m c t) qc.val qc.isLt q
      = fun e => m ((c.tc : Thread nD τ).loc main_arg0) (ix4 (n0 := 8) (n1 := 8) (n2 := 4096) (n3 := 128) b h ⟨256 * qc.val + q.val, by omega⟩ e) :=
    funext fun e => point_q m c t b h ht _ e
  have ek : keyOf (pointAt m c t)
      = fun j i e => m ((c.tc : Thread nD τ).loc main_arg1) (ix4 (n0 := 8) (n1 := 8) (n2 := 4096) (n3 := 128) b h ⟨256 * j.val + i.val, by omega⟩ e) :=
    funext fun j => funext fun i => funext fun e => point_k m c t b h ht _ e
  have ev : valueOf (pointAt m c t) d
      = fun j i => m ((c.tc : Thread nD τ).loc main_arg2) (ix4 (n0 := 8) (n1 := 8) (n2 := 128) (n3 := 4096) b h d ⟨256 * j.val + i.val, by omega⟩) :=
    funext fun j => funext fun i => point_v m c t b h ht d _
  have em : meanOf (pointAt m c t)
      = fun j e => m ((c.tc : Thread nD τ).loc main_arg3) (ix3 (n0 := 8) (n1 := 16) (n2 := 1024) b j ⟨128 * h.val + e.val, by omega⟩) :=
    funext fun j => funext fun e => point_m m c t b h ht j e
  rw [eq, ek, ev, em]

/-- The array that the kernel leaves. -/
theorem array_attended :
    (dats (F := Ideal) m 0 c).arrAt 5 cfg0.N
      = attendedArray (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 5 _ (by decide +kernel) fun t hf y => ?_
  obtain ⟨w0, w1, w2, w3, w4, w5⟩ := window_at t
  blk_simp
  rw [after0_5]
  have ht : t.val < 64 := t.isLt
  have y0 : (y 0).val < 1 := (y 0).isLt
  have y1 : (y 1).val < 4096 := (y 1).isLt
  have y2 : (y 2).val < 128 := (y 2).isLt
  have hy : y = ix3 (n0 := 1) (n1 := 4096) (n2 := 128) 0 ⟨256 * ((y 1).val / 256) + (y 1).val % 256, by omega⟩ (y 2) := by
    funext a
    match a with
    | 0 => exact Fin.ext (show (y 0).val = 0 by omega)
    | 1 => exact Fin.ext (show (y 1).val = 256 * ((y 1).val / 256) + (y 1).val % 256 by omega)
    | 2 => rfl
  have hi : (win0_5.blk t).view.emb y = ix3 (n0 := 8) (n1 := 4096) (n2 := 1024) ⟨t.val / 8, by omega⟩ (y 1)
      ⟨128 * (t.val % 8) + (y 2).val, by omega⟩ := by
    blk_ext [w5]
  rw [hi]
  refine (congrArg (outsAt0 m c t) hy).trans ?_
  refine (point_writes m c t ⟨t.val / 8, by omega⟩ ⟨t.val % 8, by omega⟩ (by show t.val = 8 * (t.val / 8) + t.val % 8; omega)
    ⟨(y 1).val / 256, by omega⟩ ⟨(y 1).val % 256, by omega⟩ (y 2)).trans ?_
  unfold attendedArray
  have e1 : (⟨t.val % 8, by omega⟩ : Fin 8) = ⟨(128 * (t.val % 8) + (y 2).val) / 128, by omega⟩ := Fin.ext (by
    show t.val % 8 = (128 * (t.val % 8) + (y 2).val) / 128; omega)
  have e2 : (y 2 : Fin 128) = ⟨(128 * (t.val % 8) + (y 2).val) % 128, by omega⟩ := Fin.ext (by
    show (y 2).val = (128 * (t.val % 8) + (y 2).val) % 128; omega)
  refine (congrArg (fun z : Fin 128 => attended (m ((c.tc : Thread nD τ).loc main_arg0)) (m ((c.tc : Thread nD τ).loc main_arg1))
    (m ((c.tc : Thread nD τ).loc main_arg2)) (m ((c.tc : Thread nD τ).loc main_arg3)) ⟨t.val / 8, by omega⟩ ⟨t.val % 8, by omega⟩
    ⟨(y 1).val / 256, by omega⟩ ⟨(y 1).val % 256, by omega⟩ z) e2).trans ?_
  exact congrArg (fun z : Fin 8 => attended (m ((c.tc : Thread nD τ).loc main_arg0)) (m ((c.tc : Thread nD τ).loc main_arg1))
    (m ((c.tc : Thread nD τ).loc main_arg2)) (m ((c.tc : Thread nD τ).loc main_arg3)) ⟨t.val / 8, by omega⟩ z
    ⟨(y 1).val / 256, by omega⟩ ⟨(y 1).val % 256, by omega⟩ ⟨(128 * (t.val % 8) + (y 2).val) % 128, by omega⟩) e1

end

end Cert.MobaTower
-- ==== Proof.Moba.Same.lean ====
/- The reference's attention is the kernel's array, over finite queries and keys. -/
module

public import proofs.«01_k».proof.Proof.Moba.RefScores
public import proofs.«01_k».proof.Proof.Moba.Equation
public import proofs.«01_k».proof.Proof.Moba.Array

@[expose] public section

set_option maxRecDepth 16384

noncomputable section

namespace Cert.MobaMath

open Idealize.ShloMosaic

/-- The score of key `i` of block `j`, of a query and keys of real numbers. -/
def realScore (Q : Fin 128 → ℝ) (K : Fin 16 → Fin 256 → Fin 128 → ℝ) (j : Fin 16) (i : Fin 256) : ℝ :=
  (∑ d : Fin 128, Q d * K j i d) * (Real.sqrt 128)⁻¹

/-- The reference's product of query and key, scaled. -/
theorem realScore_coe (Q : Fin 128 → ℝ) (K : Fin 16 → Fin 256 → Fin 128 → ℝ) (j : Fin 16) (i : Fin 256) :
    (∑ d : Fin 128, (Q d : EReal) * (K j i d : EReal)) * (((Real.sqrt 128)⁻¹ : ℝ) : EReal) = (realScore Q K j i : EReal) := by
  simp only [← EReal.coe_mul]
  rw [coe_sum, ← EReal.coe_mul]
  rfl

/-- The kernel's scores are those of the keys that count. -/
theorem kernel_scores (c : Fin 16) (q : Fin 256) (M : Fin 16 → Fin 128 → EReal) (Q : Fin 128 → ℝ) (K : Fin 16 → Fin 256 → Fin 128 → ℝ) :
    KernelScores (gate c.val M fun d => (Q d : EReal)) c q (fun j i => ((realScore Q K j i * (Real.log 2)⁻¹ : ℝ) : EReal))
      (kscore c.val q.val M (fun d => (Q d : EReal)) fun j i d => (K j i d : EReal)) := by
  intro j i hj
  have e : (∑ d : Fin 128, (K j i d : EReal) * ((Q d : EReal) * scale2)) = ((realScore Q K j i * (Real.log 2)⁻¹ : ℝ) : EReal) := by
    unfold scale2 realScore
    simp only [← EReal.coe_mul]
    rw [coe_sum, mul_assoc, Finset.sum_mul]
    refine congrArg _ (Finset.sum_congr rfl fun d _ => ?_)
    ring
  unfold kscore biasOf
  rw [e]
  constructor
  · rintro (⟨h, hp⟩ | ⟨h, hi⟩)
    · rw [if_neg (fun a => by have := a.1; omega), if_neg (fun a => by have := a.2; omega), add_zero]
    · rw [if_neg (fun a => a.2 hi), if_neg (fun a => by have := congrArg Fin.val h; omega), add_zero]
  · intro h
    by_cases hc : j = c
    · rw [if_pos ⟨congrArg Fin.val hc, fun hi => h (.inr ⟨hc, hi⟩)⟩]
    · have hlt : j.val < c.val := lt_of_le_of_ne hj fun a => hc (Fin.ext a)
      rw [if_neg (fun a => hc (Fin.ext a.1)), if_pos ⟨hlt, not_lt.1 fun hp => h (.inl ⟨hlt, hp⟩)⟩, EReal.add_bot]

end Cert.MobaMath

namespace Cert.MobaRef

open Idealize.ShloMosaic Idealize.ShloMosaic.TcCoe Cert.MobaRefIdeal Cert.MobaRefIdeal.Gen Cert.MobaMath
open Cert.MobaTower (attended)

variable (Q : FVec Ideal S8x8x4096x128 .f32) (K : FVec Ideal S8x8x4096x128 .bf16) (W : FVec Ideal S8x8x128x4096 .bf16)
  (M : FVec Ideal S8x16x1024 .f32)

/-- The reference's scores of one query, of real queries and keys. -/
theorem scores (b h : Fin 8) (c : Fin 16) (q : Fin 256) (rQ : Fin 128 → ℝ) (rK : Fin 16 → Fin 256 → Fin 128 → ℝ)
    (hQ : ∀ d, queryOf Q b h c q d = (rQ d : EReal)) (hK : ∀ j i d, keyOf K b h j i d = (rK j i d : EReal)) :
    Scores (gate c.val (meanOf M b h) (queryOf Q b h c q)) c q (pickOf Q M b h c q) (realScore rQ rK)
      (fun y : Fin 1024 => allScores Q K (indices Q M) (ix5 (n0 := 8) (n1 := 8) (n2 := 16) (n3 := 256) (n4 := 1024) b h c q y)) where
  inj := fun s s' e => by
    have := blockAt_injective _ e
    exact Fin.ext (Fin.mk.inj this)
  picked := fun j => place_lt_iff _ j
  chosen := fun s i => by
    refine (allScores_chosen Q K (indices Q M) b h c q s i).trans ?_
    refine (chosenScores_apply Q K (indices Q M) (pickOf Q M) (indices_apply Q M) b h c q s i).trans ?_
    refine if_congr Iff.rfl ?_ rfl
    simp only [hQ, hK]
    exact realScore_coe rQ rK _ i
  own := fun i => by
    refine (allScores_own Q K (indices Q M) b h c q i).trans ?_
    refine (ownScores_apply Q K b h c q i).trans ?_
    refine if_congr Iff.rfl ?_ rfl
    simp only [hQ, hK]
    exact realScore_coe rQ rK c i

/-- One element of the reference's result is the kernel's. -/
theorem answer_attended (hQ : ∀ i, ∃ r : ℝ, Q i = (r : EReal)) (hK : ∀ i, ∃ r : ℝ, K i = (r : EReal))
    (b h : Fin 8) (c : Fin 16) (q : Fin 256) (d : Fin 128) :
    answer Q K W M (ix3 (n0 := 8) (n1 := 4096) (n2 := 1024) b ⟨256 * c.val + q.val, by omega⟩ ⟨128 * h.val + d.val, by omega⟩)
      = attended Q K W M b h c q d := by
  obtain ⟨rQ, eQ⟩ : ∃ rQ : Fin 128 → ℝ, ∀ d, queryOf Q b h c q d = (rQ d : EReal) :=
    ⟨fun d => Classical.choose (hQ _), fun d => Classical.choose_spec (hQ _)⟩
  obtain ⟨rK, eK⟩ : ∃ rK : Fin 16 → Fin 256 → Fin 128 → ℝ, ∀ j i d, keyOf K b h j i d = (rK j i d : EReal) :=
    ⟨fun j i d => Classical.choose (hK _), fun j i d => Classical.choose_spec (hK _)⟩
  have H := scores Q K M b h c q rQ rK eQ eK
  have S := kernel_scores c q (meanOf M b h) rQ rK
  rw [← show queryOf Q b h c q = fun d => (rQ d : EReal) from funext eQ,
    ← show keyOf K b h = fun j i d => (rK j i d : EReal) from funext fun j => funext fun i => funext fun d => eK j i d] at S
  have E := equation H S (valueOf W b h d) _ _ rfl rfl
  refine (answer_apply Q K W M b h c q d).trans ?_
  refine (weightedValues_apply W (indices Q M) (pickOf Q M) (indices_apply Q M) _ b h c q d).trans ?_
  refine Eq.trans ?_ E
  refine congrArg₂ (· + ·) (Finset.sum_congr rfl fun s _ => Finset.sum_congr rfl fun i _ => ?_)
    (Finset.sum_congr rfl fun i _ => ?_)
  · exact congrArg (· * _) (weights_apply _ b h c q _)
  · exact congrArg (· * _) (weights_apply _ b h c q _)

end Cert.MobaRef
-- ==== Proof.Moba.Claims.lean ====
/- The attention call's claims: its frames, and that kernel and reference compute one function over the extended reals. -/
module

public import proofs.«01_k».proof.Defs
public import proofs.«01_k».proof.Proof.Moba.Same
public import proofs.«01_k».proof.Proof.Gen.Pre_finite_qk
public import Idealize.ShloMosaic.Lib.ReduceAll

@[expose] public section

set_option maxRecDepth 16384

noncomputable section

namespace Cert.MobaClaims

open Idealize.ShloMosaic Idealize.SL.Sem
open Cert.MobaRefIdeal (S8x8x4096x128 S8x8x128x4096 S8x16x1024 S8x4096x1024)

/-- The reference runs and leaves its arguments; it has no semaphores. -/
theorem frame_ref : Cert.quiescent_MobaRefIdeal := fun m ρ _ =>
  (θ_run Cert.MobaRefIdeal.defs _ _).mono (fun r h => ⟨fun c => (h c).2, sem_eq_zero_of_no_sems (by decide) r.2⟩)
    (Cert.MobaRefIdeal.Value.run (F := Ideal) m ρ)

/-- The two named constants of the attention kernel have the values that the claim's table gives them. -/
theorem preserves : Cert.preserves_Moba_MobaIdeal :=
  ⟨IdealRules.named_const.statement Cert.MobaIdeal.κ "mask" .f32 0xF149F2CA#32 ⊥ rfl,
    IdealRules.named_const.statement Cert.MobaIdeal.κ "to_log2" .f32 0x3E0293EE#32
      (((Real.sqrt 128)⁻¹ * (Real.log 2)⁻¹ : ℝ) : EReal) rfl⟩

/-- An extended real of magnitude less than infinity is a real number. -/
theorem real_of_abs (x : EReal) (h : BitVec.ofBool (decide (max x (-x) < (⊤ : EReal))) = 1#1) : ∃ r : ℝ, x = (r : EReal) := by
  have h' : max x (-x) < (⊤ : EReal) := by
    by_contra hn
    rw [decide_eq_false hn] at h
    exact absurd h (by decide)
  induction x using EReal.rec with
  | bot => exact absurd h' (by simp)
  | top => exact absurd h' (by simp)
  | coe r => exact ⟨r, rfl⟩

theorem infinity_eq : Ideal.ofBits .f32 0x7F800000#32 = (⊤ : EReal) := by
  simp [Ideal.ofBits, Ideal.ieee]

/-- What the precondition says: queries and keys are real numbers. -/
theorem finite_of_pre (Q : FVec Ideal S8x8x4096x128 .f32) (K : FVec Ideal S8x8x4096x128 .bf16) (W : FVec Ideal S8x8x128x4096 .bf16)
    (M : FVec Ideal S8x16x1024 .f32) (h : Cert.Pre_finite_qk.fn (F := Ideal) Q K W M = fun _ => 1#1) :
    (∀ i, ∃ r : ℝ, Q i = (r : EReal)) ∧ ∀ i, ∃ r : ℝ, K i = (r : EReal) := by
  have e := congrFun h (Shape.Idx.first Pre_finite_qk.Facts.h_S_)
  obtain ⟨e1, e2⟩ := IntOp.andi_eq_one.1 e
  have : Subsingleton Pre_finite_qk.S_.Idx := ⟨fun a b => funext fun k => k.elim0⟩
  refine ⟨fun i => real_of_abs _ ?_, fun i => real_of_abs _ ?_⟩
  · have k := Host.reduce_andi_all _ _ _ _ _ e1 i
    rw [← infinity_eq]
    exact k
  · have k := Host.reduce_andi_all _ _ _ _ _ e2 i
    rw [← infinity_eq]
    exact k

/-- Every index of the result is that of a query of a block, and of a column of a head. -/
theorem index_split (i : S8x4096x1024.Idx) : ∃ (b h : Fin 8) (c : Fin 16) (q : Fin 256) (d : Fin 128),
    i = ix3 (n0 := 8) (n1 := 4096) (n2 := 1024) b ⟨256 * c.val + q.val, by omega⟩ ⟨128 * h.val + d.val, by omega⟩ := by
  have h1 : (i 1).val < 4096 := (i 1).isLt
  have h2 : (i 2).val < 1024 := (i 2).isLt
  refine ⟨i 0, ⟨(i 2).val / 128, by omega⟩, ⟨(i 1).val / 256, by omega⟩, ⟨(i 1).val % 256, by omega⟩, ⟨(i 2).val % 128, by omega⟩, ?_⟩
  funext k
  match k with
  | ⟨0, _⟩ => rfl
  | ⟨1, _⟩ => exact Fin.ext (by show (i 1).val = 256 * ((i 1).val / 256) + (i 1).val % 256; omega)
  | ⟨2, _⟩ => exact Fin.ext (by show (i 2).val = 128 * ((i 2).val / 128) + (i 2).val % 128; omega)

/-- The reference's result is the kernel's array. -/
theorem answer_array (Q : FVec Ideal S8x8x4096x128 .f32) (K : FVec Ideal S8x8x4096x128 .bf16) (W : FVec Ideal S8x8x128x4096 .bf16)
    (M : FVec Ideal S8x16x1024 .f32) (hQ : ∀ i, ∃ r : ℝ, Q i = (r : EReal)) (hK : ∀ i, ∃ r : ℝ, K i = (r : EReal)) :
    MobaRef.answer Q K W M = MobaTower.attendedArray Q K W M := by
  funext i
  obtain ⟨b, h, c, q, d, rfl⟩ := index_split i
  refine (MobaRef.answer_attended Q K W M hQ hK b h c q d).trans ?_
  have e : ∀ (h' : Fin 8) (c' : Fin 16) (q' : Fin 256) (d' : Fin 128), h' = h → c' = c → q' = q → d' = d →
      MobaTower.attended Q K W M b h c q d = MobaTower.attended Q K W M b h' c' q' d' := by
    rintro _ _ _ _ rfl rfl rfl rfl
    rfl
  refine e _ _ _ _ (Fin.ext ?_) (Fin.ext ?_) (Fin.ext ?_) (Fin.ext ?_)
  · show (128 * h.val + d.val) / 128 = h.val
    omega
  · show (256 * c.val + q.val) / 256 = c.val
    omega
  · show (256 * c.val + q.val) % 256 = q.val
    omega
  · show (128 * h.val + d.val) % 128 = d.val
    omega

/-- Of finite queries and keys, kernel and reference leave the same array. -/
theorem algebraic : Cert.algebraic_MobaIdeal_MobaRefIdeal_pre_finite_qk := by
  intro m ρ m' ρ' hpre hagree
  refine ⟨_, Cert.MobaIdeal.Value.run_blocks (F := Ideal) m ρ, ?_⟩
  refine (θ_run Cert.MobaRefIdeal.defs _ _).mono (fun _ h c => ⟨(h c).1.trans ?_, (h c).2⟩)
    (Cert.MobaRefIdeal.Value.run (F := Ideal) m' ρ')
  obtain ⟨a0, a1, a2, a3⟩ := hagree c
  obtain ⟨hQ, hK⟩ := finite_of_pre _ _ _ _ (hpre c)
  refine (MobaRef.result_answer m' c).trans (Eq.trans ?_ (MobaTower.array_attended m c).symm)
  rw [a0, a1, a2, a3]
  exact answer_array _ _ _ _ hQ hK

end Cert.MobaClaims

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Moba
public import proofs.«01_k».proof.Proof.Gen.Moba.Skeleton
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Ffa
public import proofs.«01_k».proof.Proof.Gen.Ffa.Frame
public import proofs.«01_k».proof.Proof.Gen.FfaIdeal
public import proofs.«01_k».proof.Proof.Gen.FfaIdeal.Frame
public import proofs.«01_k».proof.Proof.Gen.FfaIdeal.Value
public import proofs.«01_k».proof.Proof.Gen.FfaRefIdeal
public import proofs.«01_k».proof.Proof.Gen.FfaRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Pre_finite_qk
public import proofs.«01_k».proof.Proof.Gen.FfnIdeal.Value
public import proofs.«01_k».proof.Proof.Gen.FfnRefIdeal.Run
public import proofs.«01_k».proof.Proof.Gen.MobaIdeal.Value
public import proofs.«01_k».proof.Proof.Gen.MobaRefIdeal.Run
public import proofs.«01_k».proof.Proof.Ffn.Claims
public import proofs.«01_k».proof.Proof.Ffa.Claims
public import proofs.«01_k».proof.Proof.Qkv.Claims
public import proofs.«01_k».proof.Proof.Moba.Claims
public import Idealize.ShloMosaic.Adequacy
public import Idealize.ShloMosaic.Init

@[expose] public section

noncomputable section

namespace Cert.Proof

open Idealize.ShloMosaic Idealize.SL.Sem Cert.Ffn

/-- Every claim of the certificate; the frames that hold of every argument hold of those the precondition admits. -/
theorem claim : Cert.Claim := ⟨Cert.Ffn.Gen.facts, Cert.FfnIdeal.Gen.facts, Cert.FfnRefIdeal.Gen.facts, Cert.Ffa.Gen.facts, Cert.FfaIdeal.Gen.facts,
  Cert.FfaRefIdeal.Gen.facts, Cert.Qkv.Gen.facts, Cert.QkvIdeal.Gen.facts, Cert.QkvRefIdeal.Gen.facts, Cert.Moba.Gen.facts, Cert.MobaIdeal.Gen.facts,
  Cert.MobaRefIdeal.Gen.facts, Cert.Pre_finite_qk.Gen.facts,
  fun m ρ _ => Cert.Ffn.Gen.frame m ρ, fun m ρ _ => Cert.FfnIdeal.Gen.frame m ρ, FfnClaims.frame_ref,
  fun m ρ _ => Cert.Ffa.Gen.frame m ρ, fun m ρ _ => Cert.FfaIdeal.Gen.frame m ρ, FfaClaims.frame_ref,
  fun m ρ _ => Cert.Qkv.Gen.frame m ρ, fun m ρ _ => Cert.QkvIdeal.Gen.frame m ρ, QkvClaims.frame_ref,
  fun m ρ _ => Cert.Moba.Gen.frame m ρ, fun m ρ _ => Cert.MobaIdeal.Gen.frame m ρ, fun m ρ _ => Cert.MobaIdeal.Gen.frame m ρ,
  MobaClaims.frame_ref, fun m ρ _ => MobaClaims.frame_ref m ρ trivial,
  trivial, FfnClaims.algebraic, trivial, FfaClaims.algebraic, trivial, QkvClaims.algebraic, MobaClaims.preserves, MobaClaims.algebraic⟩

end Cert.Proof

end
